-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_named_KernelIdeal [hPre_experts_named_KernelIdeal : Cert.Pre_experts_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_named_ReferenceIdeal [hPre_experts_named_ReferenceIdeal : Cert.Pre_experts_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_named_KernelIdeal [hKernelIdeal : Cert.KernelIdeal.Facts] [hPre_experts_named_KernelIdeal : Cert.Pre_experts_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_named_ReferenceIdeal [hReferenceIdeal : Cert.ReferenceIdeal.Facts] [hPre_experts_named_ReferenceIdeal : Cert.Pre_experts_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_named_KernelIdeal [hKernelIdeal : Cert.KernelIdeal.Facts] [hReferenceIdeal : Cert.ReferenceIdeal.Facts] [hPre_experts_named_KernelIdeal : Cert.Pre_experts_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![1024, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_named_KernelIdeal : Cert.Pre_experts_named_KernelIdeal.Facts) (hPre_experts_named_ReferenceIdeal : Cert.Pre_experts_named_ReferenceIdeal.Facts),
    quiescent_Kernel (hKernel := hKernel)
    ∧ quiescent_KernelIdeal (hKernelIdeal := hKernelIdeal)
    ∧ quiescent_KernelIdeal_pre_experts_named_KernelIdeal (hKernelIdeal := hKernelIdeal) (hPre_experts_named_KernelIdeal := hPre_experts_named_KernelIdeal)
    ∧ quiescent_ReferenceIdeal (hReferenceIdeal := hReferenceIdeal)
    ∧ quiescent_ReferenceIdeal_pre_experts_named_ReferenceIdeal (hReferenceIdeal := hReferenceIdeal) (hPre_experts_named_ReferenceIdeal := hPre_experts_named_ReferenceIdeal)
    ∧ preserves_Kernel_KernelIdeal
    ∧ algebraic_KernelIdeal_ReferenceIdeal_pre_experts_named_KernelIdeal (hKernelIdeal := hKernelIdeal) (hReferenceIdeal := hReferenceIdeal) (hPre_experts_named_KernelIdeal := hPre_experts_named_KernelIdeal)
-- ==== Pre_experts_named_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)

variable [Facts]

def fn {F : FTy → Type} [FloatOps F] (main_arg0 : FVec F S1024x256 .bf16) (main_arg1 : FVec F S256x128 .bf16) (main_arg2 : IVec S1024x2 32) (main_arg3 : FVec F S4x256x512 .bf16) : IVec S1024x2 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  main_v4
-- ==== Pre_experts_named_ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S_ : Shape := ⟨0, ![]⟩

class Facts : Prop where
  bcast_S_S1024x2 : S_.BroadcastsInDim S1024x2 (![] : Fin 0 → Fin S1024x2.rank)

variable [Facts]

def fn {F : FTy → Type} [FloatOps F] (main_arg0 : FVec F S1024x256 .bf16) (main_arg1 : FVec F S256x128 .bf16) (main_arg2 : IVec S1024x2 32) (main_arg3 : FVec F S128x256x512 .bf16) : IVec S1024x2 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  main_v4
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S32x512 : Shape := ⟨2, ![32, 512]⟩
abbrev S1024x512 : Shape := ⟨2, ![1024, 512]⟩
abbrev S32x32x512 : Shape := ⟨3, ![32, 32, 512]⟩
abbrev S32 : Shape := ⟨1, ![32]⟩
abbrev S1024x128 : Shape := ⟨2, ![1024, 128]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S1x32x512 : Shape := ⟨3, ![1, 32, 512]⟩
abbrev S_ : Shape := ⟨0, ![]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x2, .i32⟩
  | .hbm, ⟨3, _⟩ => ⟨S4x256x512, .bf16⟩
  | .hbm, ⟨4, _⟩ => ⟨S32x512, .f32⟩
  | .local _ .vmem, ⟨0, _⟩ => ⟨S1024x256, .bf16⟩
  | .local _ .vmem, ⟨1, _⟩ => ⟨S256x128, .bf16⟩
  | .local _ .vmem, ⟨2, _⟩ => ⟨S1024x2, .i32⟩
  | .local _ .vmem, ⟨3, _⟩ => ⟨S4x256x512, .bf16⟩
  | .local _ .vmem, ⟨4, _⟩ => ⟨S32x512, .f32⟩
  | .local _ .vmem, ⟨5, _⟩ => ⟨S1024x512, .bf16⟩
  | .local _ .vmem, ⟨6, _⟩ => ⟨S32x32x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_41 : BitVec 32 := 32#32
  let v110 : BitVec 32 := Scalar.muli v2 c32_i32_41
  let v111 : Index := Scalar.indexCast v110
  let c0_42 : Index := 0#32
  ![v111.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v114 : Index := Scalar.indexCast v2
  let c0_43 : Index := 0#32
  let c0_44 : Index := 0#32
  ![v114.toNat, 0, 0]
def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let v119 : BitVec 32 := Scalar.addi v2 c1_i32_45
  let c32_i32_46 : BitVec 32 := 32#32
  let v120 : BitVec 32 := Scalar.remsi v119 c32_i32_46
  let c1_i32_48 : BitVec 32 := 1#32
  let v121 : BitVec 32 := Scalar.muli v120 c1_i32_48
  let v122 : BitVec 32 := Scalar.addi c0_i32_49 v121
  v122.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_50 : BitVec 32 := 2#32
  let v123 : BitVec 32 := Scalar.addi v2 c2_i32_50
  let c32_i32_51 : BitVec 32 := 32#32
  let v124 : BitVec 32 := Scalar.remsi v123 c32_i32_51
  let c1_i32_53 : BitVec 32 := 1#32
  let v125 : BitVec 32 := Scalar.muli v124 c1_i32_53
  let v126 : BitVec 32 := Scalar.addi c0_i32_54 v125
  v126.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_55 : BitVec 32 := 3#32
  let v127 : BitVec 32 := Scalar.addi v2 c3_i32_55
  let c32_i32_56 : BitVec 32 := 32#32
  let v128 : BitVec 32 := Scalar.remsi v127 c32_i32_56
  let c1_i32_58 : BitVec 32 := 1#32
  let v129 : BitVec 32 := Scalar.muli v128 c1_i32_58
  let v130 : BitVec 32 := Scalar.addi c0_i32_59 v129
  v130.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_60 : BitVec 32 := 4#32
  let v131 : BitVec 32 := Scalar.addi v2 c4_i32_60
  let c32_i32_61 : BitVec 32 := 32#32
  let v132 : BitVec 32 := Scalar.remsi v131 c32_i32_61
  let c1_i32_63 : BitVec 32 := 1#32
  let v133 : BitVec 32 := Scalar.muli v132 c1_i32_63
  let v134 : BitVec 32 := Scalar.addi c0_i32_64 v133
  v134.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v135 : BitVec 32 := Scalar.addi v2 c5_i32
  let c32_i32_65 : BitVec 32 := 32#32
  let v136 : BitVec 32 := Scalar.remsi v135 c32_i32_65
  let c1_i32_67 : BitVec 32 := 1#32
  let v137 : BitVec 32 := Scalar.muli v136 c1_i32_67
  let v138 : BitVec 32 := Scalar.addi c0_i32_68 v137
  v138.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v139 : BitVec 32 := Scalar.addi v2 c6_i32
  let c32_i32_69 : BitVec 32 := 32#32
  let v140 : BitVec 32 := Scalar.remsi v139 c32_i32_69
  let c1_i32_71 : BitVec 32 := 1#32
  let v141 : BitVec 32 := Scalar.muli v140 c1_i32_71
  let v142 : BitVec 32 := Scalar.addi c0_i32_72 v141
  v142.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v143 : BitVec 32 := Scalar.addi v2 c7_i32
  let c32_i32_73 : BitVec 32 := 32#32
  let v144 : BitVec 32 := Scalar.remsi v143 c32_i32_73
  let c1_i32_75 : BitVec 32 := 1#32
  let v145 : BitVec 32 := Scalar.muli v144 c1_i32_75
  let v146 : BitVec 32 := Scalar.addi c0_i32_76 v145
  v146.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v147 : BitVec 32 := Scalar.addi v2 c8_i32
  let c32_i32_77 : BitVec 32 := 32#32
  let v148 : BitVec 32 := Scalar.remsi v147 c32_i32_77
  let c1_i32_79 : BitVec 32 := 1#32
  let v149 : BitVec 32 := Scalar.muli v148 c1_i32_79
  let v150 : BitVec 32 := Scalar.addi c0_i32_80 v149
  v150.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v151 : BitVec 32 := Scalar.addi v2 c9_i32
  let c32_i32_81 : BitVec 32 := 32#32
  let v152 : BitVec 32 := Scalar.remsi v151 c32_i32_81
  let c1_i32_83 : BitVec 32 := 1#32
  let v153 : BitVec 32 := Scalar.muli v152 c1_i32_83
  let v154 : BitVec 32 := Scalar.addi c0_i32_84 v153
  v154.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v155 : BitVec 32 := Scalar.addi v2 c10_i32
  let c32_i32_85 : BitVec 32 := 32#32
  let v156 : BitVec 32 := Scalar.remsi v155 c32_i32_85
  let c1_i32_87 : BitVec 32 := 1#32
  let v157 : BitVec 32 := Scalar.muli v156 c1_i32_87
  let v158 : BitVec 32 := Scalar.addi c0_i32_88 v157
  v158.toNat
def k0_dev11 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v159 : BitVec 32 := Scalar.addi v2 c11_i32
  let c32_i32_89 : BitVec 32 := 32#32
  let v160 : BitVec 32 := Scalar.remsi v159 c32_i32_89
  let c1_i32_91 : BitVec 32 := 1#32
  let v161 : BitVec 32 := Scalar.muli v160 c1_i32_91
  let v162 : BitVec 32 := Scalar.addi c0_i32_92 v161
  v162.toNat
def k0_dev12 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v163 : BitVec 32 := Scalar.addi v2 c12_i32
  let c32_i32_93 : BitVec 32 := 32#32
  let v164 : BitVec 32 := Scalar.remsi v163 c32_i32_93
  let c1_i32_95 : BitVec 32 := 1#32
  let v165 : BitVec 32 := Scalar.muli v164 c1_i32_95
  let v166 : BitVec 32 := Scalar.addi c0_i32_96 v165
  v166.toNat
def k0_dev13 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v167 : BitVec 32 := Scalar.addi v2 c13_i32
  let c32_i32_97 : BitVec 32 := 32#32
  let v168 : BitVec 32 := Scalar.remsi v167 c32_i32_97
  let c1_i32_99 : BitVec 32 := 1#32
  let v169 : BitVec 32 := Scalar.muli v168 c1_i32_99
  let v170 : BitVec 32 := Scalar.addi c0_i32_100 v169
  v170.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v171 : BitVec 32 := Scalar.addi v2 c14_i32
  let c32_i32_101 : BitVec 32 := 32#32
  let v172 : BitVec 32 := Scalar.remsi v171 c32_i32_101
  let c1_i32_103 : BitVec 32 := 1#32
  let v173 : BitVec 32 := Scalar.muli v172 c1_i32_103
  let v174 : BitVec 32 := Scalar.addi c0_i32_104 v173
  v174.toNat
def k0_dev15 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v175 : BitVec 32 := Scalar.addi v2 c15_i32
  let c32_i32_105 : BitVec 32 := 32#32
  let v176 : BitVec 32 := Scalar.remsi v175 c32_i32_105
  let c1_i32_107 : BitVec 32 := 1#32
  let v177 : BitVec 32 := Scalar.muli v176 c1_i32_107
  let v178 : BitVec 32 := Scalar.addi c0_i32_108 v177
  v178.toNat
def k0_dev16 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v179 : BitVec 32 := Scalar.addi v2 c16_i32
  let c32_i32_109 : BitVec 32 := 32#32
  let v180 : BitVec 32 := Scalar.remsi v179 c32_i32_109
  let c1_i32_111 : BitVec 32 := 1#32
  let v181 : BitVec 32 := Scalar.muli v180 c1_i32_111
  let v182 : BitVec 32 := Scalar.addi c0_i32_112 v181
  v182.toNat
def k0_dev17 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v183 : BitVec 32 := Scalar.addi v2 c17_i32
  let c32_i32_113 : BitVec 32 := 32#32
  let v184 : BitVec 32 := Scalar.remsi v183 c32_i32_113
  let c1_i32_115 : BitVec 32 := 1#32
  let v185 : BitVec 32 := Scalar.muli v184 c1_i32_115
  let v186 : BitVec 32 := Scalar.addi c0_i32_116 v185
  v186.toNat
def k0_dev18 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v187 : BitVec 32 := Scalar.addi v2 c18_i32
  let c32_i32_117 : BitVec 32 := 32#32
  let v188 : BitVec 32 := Scalar.remsi v187 c32_i32_117
  let c1_i32_119 : BitVec 32 := 1#32
  let v189 : BitVec 32 := Scalar.muli v188 c1_i32_119
  let v190 : BitVec 32 := Scalar.addi c0_i32_120 v189
  v190.toNat
def k0_dev19 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v191 : BitVec 32 := Scalar.addi v2 c19_i32
  let c32_i32_121 : BitVec 32 := 32#32
  let v192 : BitVec 32 := Scalar.remsi v191 c32_i32_121
  let c1_i32_123 : BitVec 32 := 1#32
  let v193 : BitVec 32 := Scalar.muli v192 c1_i32_123
  let v194 : BitVec 32 := Scalar.addi c0_i32_124 v193
  v194.toNat
def k0_dev20 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v195 : BitVec 32 := Scalar.addi v2 c20_i32
  let c32_i32_125 : BitVec 32 := 32#32
  let v196 : BitVec 32 := Scalar.remsi v195 c32_i32_125
  let c1_i32_127 : BitVec 32 := 1#32
  let v197 : BitVec 32 := Scalar.muli v196 c1_i32_127
  let v198 : BitVec 32 := Scalar.addi c0_i32_128 v197
  v198.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v199 : BitVec 32 := Scalar.addi v2 c21_i32
  let c32_i32_129 : BitVec 32 := 32#32
  let v200 : BitVec 32 := Scalar.remsi v199 c32_i32_129
  let c1_i32_131 : BitVec 32 := 1#32
  let v201 : BitVec 32 := Scalar.muli v200 c1_i32_131
  let v202 : BitVec 32 := Scalar.addi c0_i32_132 v201
  v202.toNat
def k0_dev22 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v203 : BitVec 32 := Scalar.addi v2 c22_i32
  let c32_i32_133 : BitVec 32 := 32#32
  let v204 : BitVec 32 := Scalar.remsi v203 c32_i32_133
  let c1_i32_135 : BitVec 32 := 1#32
  let v205 : BitVec 32 := Scalar.muli v204 c1_i32_135
  let v206 : BitVec 32 := Scalar.addi c0_i32_136 v205
  v206.toNat
def k0_dev23 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v207 : BitVec 32 := Scalar.addi v2 c23_i32
  let c32_i32_137 : BitVec 32 := 32#32
  let v208 : BitVec 32 := Scalar.remsi v207 c32_i32_137
  let c1_i32_139 : BitVec 32 := 1#32
  let v209 : BitVec 32 := Scalar.muli v208 c1_i32_139
  let v210 : BitVec 32 := Scalar.addi c0_i32_140 v209
  v210.toNat
def k0_dev24 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v211 : BitVec 32 := Scalar.addi v2 c24_i32
  let c32_i32_141 : BitVec 32 := 32#32
  let v212 : BitVec 32 := Scalar.remsi v211 c32_i32_141
  let c1_i32_143 : BitVec 32 := 1#32
  let v213 : BitVec 32 := Scalar.muli v212 c1_i32_143
  let v214 : BitVec 32 := Scalar.addi c0_i32_144 v213
  v214.toNat
def k0_dev25 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v215 : BitVec 32 := Scalar.addi v2 c25_i32
  let c32_i32_145 : BitVec 32 := 32#32
  let v216 : BitVec 32 := Scalar.remsi v215 c32_i32_145
  let c1_i32_147 : BitVec 32 := 1#32
  let v217 : BitVec 32 := Scalar.muli v216 c1_i32_147
  let v218 : BitVec 32 := Scalar.addi c0_i32_148 v217
  v218.toNat
def k0_dev26 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v219 : BitVec 32 := Scalar.addi v2 c26_i32
  let c32_i32_149 : BitVec 32 := 32#32
  let v220 : BitVec 32 := Scalar.remsi v219 c32_i32_149
  let c1_i32_151 : BitVec 32 := 1#32
  let v221 : BitVec 32 := Scalar.muli v220 c1_i32_151
  let v222 : BitVec 32 := Scalar.addi c0_i32_152 v221
  v222.toNat
def k0_dev27 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v223 : BitVec 32 := Scalar.addi v2 c27_i32
  let c32_i32_153 : BitVec 32 := 32#32
  let v224 : BitVec 32 := Scalar.remsi v223 c32_i32_153
  let c1_i32_155 : BitVec 32 := 1#32
  let v225 : BitVec 32 := Scalar.muli v224 c1_i32_155
  let v226 : BitVec 32 := Scalar.addi c0_i32_156 v225
  v226.toNat
def k0_dev28 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v227 : BitVec 32 := Scalar.addi v2 c28_i32
  let c32_i32_157 : BitVec 32 := 32#32
  let v228 : BitVec 32 := Scalar.remsi v227 c32_i32_157
  let c1_i32_159 : BitVec 32 := 1#32
  let v229 : BitVec 32 := Scalar.muli v228 c1_i32_159
  let v230 : BitVec 32 := Scalar.addi c0_i32_160 v229
  v230.toNat
def k0_dev29 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v231 : BitVec 32 := Scalar.addi v2 c29_i32
  let c32_i32_161 : BitVec 32 := 32#32
  let v232 : BitVec 32 := Scalar.remsi v231 c32_i32_161
  let c1_i32_163 : BitVec 32 := 1#32
  let v233 : BitVec 32 := Scalar.muli v232 c1_i32_163
  let v234 : BitVec 32 := Scalar.addi c0_i32_164 v233
  v234.toNat
def k0_dev30 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v235 : BitVec 32 := Scalar.addi v2 c30_i32
  let c32_i32_165 : BitVec 32 := 32#32
  let v236 : BitVec 32 := Scalar.remsi v235 c32_i32_165
  let c1_i32_167 : BitVec 32 := 1#32
  let v237 : BitVec 32 := Scalar.muli v236 c1_i32_167
  let v238 : BitVec 32 := Scalar.addi c0_i32_168 v237
  v238.toNat
def k0_dev31 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v239 : BitVec 32 := Scalar.addi v2 c31_i32
  let c32_i32_169 : BitVec 32 := 32#32
  let v240 : BitVec 32 := Scalar.remsi v239 c32_i32_169
  let c1_i32_171 : BitVec 32 := 1#32
  let v241 : BitVec 32 := Scalar.muli v240 c1_i32_171
  let v242 : BitVec 32 := Scalar.addi c0_i32_172 v241
  v242.toNat
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_180 : BitVec 32 := 0#32
  let c0_i32_181 : BitVec 32 := 0#32
  ![v2.toNat, 0, 0]
def k0_off5 (d0 : Dev nD) (c1_i32_174 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v243 : BitVec 32 := Scalar.addi v2 c1_i32_174
  let c32_i32_175 : BitVec 32 := 32#32
  let v244 : BitVec 32 := Scalar.remsi v243 c32_i32_175
  let c32_i32_176 : BitVec 32 := 32#32
  let v245 : BitVec 32 := Scalar.muli v244 c32_i32_176
  let c0_i32_182 : BitVec 32 := 0#32
  ![v245.toNat, 0]
def k0_dev32 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v243 : BitVec 32 := Scalar.addi v2 c1_i32_174
  let c32_i32_175 : BitVec 32 := 32#32
  let v244 : BitVec 32 := Scalar.remsi v243 c32_i32_175
  let c1_i32_178 : BitVec 32 := 1#32
  let v246 : BitVec 32 := Scalar.muli v244 c1_i32_178
  let v247 : BitVec 32 := Scalar.addi c0_i32_179 v246
  v247.toNat
def k0_dev33 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_183 : BitVec 32 := 2#32
  let v255 : BitVec 32 := Scalar.addi v2 c2_i32_183
  let c32_i32_184 : BitVec 32 := 32#32
  let v256 : BitVec 32 := Scalar.remsi v255 c32_i32_184
  let c1_i32_187 : BitVec 32 := 1#32
  let v258 : BitVec 32 := Scalar.muli v256 c1_i32_187
  let v259 : BitVec 32 := Scalar.addi c0_i32_188 v258
  v259.toNat
def k0_dev34 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_192 : BitVec 32 := 3#32
  let v267 : BitVec 32 := Scalar.addi v2 c3_i32_192
  let c32_i32_193 : BitVec 32 := 32#32
  let v268 : BitVec 32 := Scalar.remsi v267 c32_i32_193
  let c1_i32_196 : BitVec 32 := 1#32
  let v270 : BitVec 32 := Scalar.muli v268 c1_i32_196
  let v271 : BitVec 32 := Scalar.addi c0_i32_197 v270
  v271.toNat
def k0_dev35 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_201 : BitVec 32 := 4#32
  let v279 : BitVec 32 := Scalar.addi v2 c4_i32_201
  let c32_i32_202 : BitVec 32 := 32#32
  let v280 : BitVec 32 := Scalar.remsi v279 c32_i32_202
  let c1_i32_205 : BitVec 32 := 1#32
  let v282 : BitVec 32 := Scalar.muli v280 c1_i32_205
  let v283 : BitVec 32 := Scalar.addi c0_i32_206 v282
  v283.toNat
def k0_dev36 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_210 : BitVec 32 := 5#32
  let v291 : BitVec 32 := Scalar.addi v2 c5_i32_210
  let c32_i32_211 : BitVec 32 := 32#32
  let v292 : BitVec 32 := Scalar.remsi v291 c32_i32_211
  let c1_i32_214 : BitVec 32 := 1#32
  let v294 : BitVec 32 := Scalar.muli v292 c1_i32_214
  let v295 : BitVec 32 := Scalar.addi c0_i32_215 v294
  v295.toNat
def k0_dev37 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_219 : BitVec 32 := 6#32
  let v303 : BitVec 32 := Scalar.addi v2 c6_i32_219
  let c32_i32_220 : BitVec 32 := 32#32
  let v304 : BitVec 32 := Scalar.remsi v303 c32_i32_220
  let c1_i32_223 : BitVec 32 := 1#32
  let v306 : BitVec 32 := Scalar.muli v304 c1_i32_223
  let v307 : BitVec 32 := Scalar.addi c0_i32_224 v306
  v307.toNat
def k0_dev38 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_228 : BitVec 32 := 7#32
  let v315 : BitVec 32 := Scalar.addi v2 c7_i32_228
  let c32_i32_229 : BitVec 32 := 32#32
  let v316 : BitVec 32 := Scalar.remsi v315 c32_i32_229
  let c1_i32_232 : BitVec 32 := 1#32
  let v318 : BitVec 32 := Scalar.muli v316 c1_i32_232
  let v319 : BitVec 32 := Scalar.addi c0_i32_233 v318
  v319.toNat
def k0_dev39 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_237 : BitVec 32 := 8#32
  let v327 : BitVec 32 := Scalar.addi v2 c8_i32_237
  let c32_i32_238 : BitVec 32 := 32#32
  let v328 : BitVec 32 := Scalar.remsi v327 c32_i32_238
  let c1_i32_241 : BitVec 32 := 1#32
  let v330 : BitVec 32 := Scalar.muli v328 c1_i32_241
  let v331 : BitVec 32 := Scalar.addi c0_i32_242 v330
  v331.toNat
def k0_dev40 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_246 : BitVec 32 := 9#32
  let v339 : BitVec 32 := Scalar.addi v2 c9_i32_246
  let c32_i32_247 : BitVec 32 := 32#32
  let v340 : BitVec 32 := Scalar.remsi v339 c32_i32_247
  let c1_i32_250 : BitVec 32 := 1#32
  let v342 : BitVec 32 := Scalar.muli v340 c1_i32_250
  let v343 : BitVec 32 := Scalar.addi c0_i32_251 v342
  v343.toNat
def k0_dev41 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_255 : BitVec 32 := 10#32
  let v351 : BitVec 32 := Scalar.addi v2 c10_i32_255
  let c32_i32_256 : BitVec 32 := 32#32
  let v352 : BitVec 32 := Scalar.remsi v351 c32_i32_256
  let c1_i32_259 : BitVec 32 := 1#32
  let v354 : BitVec 32 := Scalar.muli v352 c1_i32_259
  let v355 : BitVec 32 := Scalar.addi c0_i32_260 v354
  v355.toNat
def k0_dev42 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_264 : BitVec 32 := 11#32
  let v363 : BitVec 32 := Scalar.addi v2 c11_i32_264
  let c32_i32_265 : BitVec 32 := 32#32
  let v364 : BitVec 32 := Scalar.remsi v363 c32_i32_265
  let c1_i32_268 : BitVec 32 := 1#32
  let v366 : BitVec 32 := Scalar.muli v364 c1_i32_268
  let v367 : BitVec 32 := Scalar.addi c0_i32_269 v366
  v367.toNat
def k0_dev43 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_273 : BitVec 32 := 12#32
  let v375 : BitVec 32 := Scalar.addi v2 c12_i32_273
  let c32_i32_274 : BitVec 32 := 32#32
  let v376 : BitVec 32 := Scalar.remsi v375 c32_i32_274
  let c1_i32_277 : BitVec 32 := 1#32
  let v378 : BitVec 32 := Scalar.muli v376 c1_i32_277
  let v379 : BitVec 32 := Scalar.addi c0_i32_278 v378
  v379.toNat
def k0_dev44 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_282 : BitVec 32 := 13#32
  let v387 : BitVec 32 := Scalar.addi v2 c13_i32_282
  let c32_i32_283 : BitVec 32 := 32#32
  let v388 : BitVec 32 := Scalar.remsi v387 c32_i32_283
  let c1_i32_286 : BitVec 32 := 1#32
  let v390 : BitVec 32 := Scalar.muli v388 c1_i32_286
  let v391 : BitVec 32 := Scalar.addi c0_i32_287 v390
  v391.toNat
def k0_dev45 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_291 : BitVec 32 := 14#32
  let v399 : BitVec 32 := Scalar.addi v2 c14_i32_291
  let c32_i32_292 : BitVec 32 := 32#32
  let v400 : BitVec 32 := Scalar.remsi v399 c32_i32_292
  let c1_i32_295 : BitVec 32 := 1#32
  let v402 : BitVec 32 := Scalar.muli v400 c1_i32_295
  let v403 : BitVec 32 := Scalar.addi c0_i32_296 v402
  v403.toNat
def k0_dev46 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_300 : BitVec 32 := 15#32
  let v411 : BitVec 32 := Scalar.addi v2 c15_i32_300
  let c32_i32_301 : BitVec 32 := 32#32
  let v412 : BitVec 32 := Scalar.remsi v411 c32_i32_301
  let c1_i32_304 : BitVec 32 := 1#32
  let v414 : BitVec 32 := Scalar.muli v412 c1_i32_304
  let v415 : BitVec 32 := Scalar.addi c0_i32_305 v414
  v415.toNat
def k0_dev47 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_309 : BitVec 32 := 16#32
  let v423 : BitVec 32 := Scalar.addi v2 c16_i32_309
  let c32_i32_310 : BitVec 32 := 32#32
  let v424 : BitVec 32 := Scalar.remsi v423 c32_i32_310
  let c1_i32_313 : BitVec 32 := 1#32
  let v426 : BitVec 32 := Scalar.muli v424 c1_i32_313
  let v427 : BitVec 32 := Scalar.addi c0_i32_314 v426
  v427.toNat
def k0_dev48 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_318 : BitVec 32 := 17#32
  let v435 : BitVec 32 := Scalar.addi v2 c17_i32_318
  let c32_i32_319 : BitVec 32 := 32#32
  let v436 : BitVec 32 := Scalar.remsi v435 c32_i32_319
  let c1_i32_322 : BitVec 32 := 1#32
  let v438 : BitVec 32 := Scalar.muli v436 c1_i32_322
  let v439 : BitVec 32 := Scalar.addi c0_i32_323 v438
  v439.toNat
def k0_dev49 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_327 : BitVec 32 := 18#32
  let v447 : BitVec 32 := Scalar.addi v2 c18_i32_327
  let c32_i32_328 : BitVec 32 := 32#32
  let v448 : BitVec 32 := Scalar.remsi v447 c32_i32_328
  let c1_i32_331 : BitVec 32 := 1#32
  let v450 : BitVec 32 := Scalar.muli v448 c1_i32_331
  let v451 : BitVec 32 := Scalar.addi c0_i32_332 v450
  v451.toNat
def k0_dev50 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_336 : BitVec 32 := 19#32
  let v459 : BitVec 32 := Scalar.addi v2 c19_i32_336
  let c32_i32_337 : BitVec 32 := 32#32
  let v460 : BitVec 32 := Scalar.remsi v459 c32_i32_337
  let c1_i32_340 : BitVec 32 := 1#32
  let v462 : BitVec 32 := Scalar.muli v460 c1_i32_340
  let v463 : BitVec 32 := Scalar.addi c0_i32_341 v462
  v463.toNat
def k0_dev51 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_345 : BitVec 32 := 20#32
  let v471 : BitVec 32 := Scalar.addi v2 c20_i32_345
  let c32_i32_346 : BitVec 32 := 32#32
  let v472 : BitVec 32 := Scalar.remsi v471 c32_i32_346
  let c1_i32_349 : BitVec 32 := 1#32
  let v474 : BitVec 32 := Scalar.muli v472 c1_i32_349
  let v475 : BitVec 32 := Scalar.addi c0_i32_350 v474
  v475.toNat
def k0_dev52 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_354 : BitVec 32 := 21#32
  let v483 : BitVec 32 := Scalar.addi v2 c21_i32_354
  let c32_i32_355 : BitVec 32 := 32#32
  let v484 : BitVec 32 := Scalar.remsi v483 c32_i32_355
  let c1_i32_358 : BitVec 32 := 1#32
  let v486 : BitVec 32 := Scalar.muli v484 c1_i32_358
  let v487 : BitVec 32 := Scalar.addi c0_i32_359 v486
  v487.toNat
def k0_dev53 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_363 : BitVec 32 := 22#32
  let v495 : BitVec 32 := Scalar.addi v2 c22_i32_363
  let c32_i32_364 : BitVec 32 := 32#32
  let v496 : BitVec 32 := Scalar.remsi v495 c32_i32_364
  let c1_i32_367 : BitVec 32 := 1#32
  let v498 : BitVec 32 := Scalar.muli v496 c1_i32_367
  let v499 : BitVec 32 := Scalar.addi c0_i32_368 v498
  v499.toNat
def k0_dev54 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_372 : BitVec 32 := 23#32
  let v507 : BitVec 32 := Scalar.addi v2 c23_i32_372
  let c32_i32_373 : BitVec 32 := 32#32
  let v508 : BitVec 32 := Scalar.remsi v507 c32_i32_373
  let c1_i32_376 : BitVec 32 := 1#32
  let v510 : BitVec 32 := Scalar.muli v508 c1_i32_376
  let v511 : BitVec 32 := Scalar.addi c0_i32_377 v510
  v511.toNat
def k0_dev55 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_381 : BitVec 32 := 24#32
  let v519 : BitVec 32 := Scalar.addi v2 c24_i32_381
  let c32_i32_382 : BitVec 32 := 32#32
  let v520 : BitVec 32 := Scalar.remsi v519 c32_i32_382
  let c1_i32_385 : BitVec 32 := 1#32
  let v522 : BitVec 32 := Scalar.muli v520 c1_i32_385
  let v523 : BitVec 32 := Scalar.addi c0_i32_386 v522
  v523.toNat
def k0_dev56 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_390 : BitVec 32 := 25#32
  let v531 : BitVec 32 := Scalar.addi v2 c25_i32_390
  let c32_i32_391 : BitVec 32 := 32#32
  let v532 : BitVec 32 := Scalar.remsi v531 c32_i32_391
  let c1_i32_394 : BitVec 32 := 1#32
  let v534 : BitVec 32 := Scalar.muli v532 c1_i32_394
  let v535 : BitVec 32 := Scalar.addi c0_i32_395 v534
  v535.toNat
def k0_dev57 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_399 : BitVec 32 := 26#32
  let v543 : BitVec 32 := Scalar.addi v2 c26_i32_399
  let c32_i32_400 : BitVec 32 := 32#32
  let v544 : BitVec 32 := Scalar.remsi v543 c32_i32_400
  let c1_i32_403 : BitVec 32 := 1#32
  let v546 : BitVec 32 := Scalar.muli v544 c1_i32_403
  let v547 : BitVec 32 := Scalar.addi c0_i32_404 v546
  v547.toNat
def k0_dev58 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_408 : BitVec 32 := 27#32
  let v555 : BitVec 32 := Scalar.addi v2 c27_i32_408
  let c32_i32_409 : BitVec 32 := 32#32
  let v556 : BitVec 32 := Scalar.remsi v555 c32_i32_409
  let c1_i32_412 : BitVec 32 := 1#32
  let v558 : BitVec 32 := Scalar.muli v556 c1_i32_412
  let v559 : BitVec 32 := Scalar.addi c0_i32_413 v558
  v559.toNat
def k0_dev59 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_417 : BitVec 32 := 28#32
  let v567 : BitVec 32 := Scalar.addi v2 c28_i32_417
  let c32_i32_418 : BitVec 32 := 32#32
  let v568 : BitVec 32 := Scalar.remsi v567 c32_i32_418
  let c1_i32_421 : BitVec 32 := 1#32
  let v570 : BitVec 32 := Scalar.muli v568 c1_i32_421
  let v571 : BitVec 32 := Scalar.addi c0_i32_422 v570
  v571.toNat
def k0_dev60 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_426 : BitVec 32 := 29#32
  let v579 : BitVec 32 := Scalar.addi v2 c29_i32_426
  let c32_i32_427 : BitVec 32 := 32#32
  let v580 : BitVec 32 := Scalar.remsi v579 c32_i32_427
  let c1_i32_430 : BitVec 32 := 1#32
  let v582 : BitVec 32 := Scalar.muli v580 c1_i32_430
  let v583 : BitVec 32 := Scalar.addi c0_i32_431 v582
  v583.toNat
def k0_dev61 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_435 : BitVec 32 := 30#32
  let v591 : BitVec 32 := Scalar.addi v2 c30_i32_435
  let c32_i32_436 : BitVec 32 := 32#32
  let v592 : BitVec 32 := Scalar.remsi v591 c32_i32_436
  let c1_i32_439 : BitVec 32 := 1#32
  let v594 : BitVec 32 := Scalar.muli v592 c1_i32_439
  let v595 : BitVec 32 := Scalar.addi c0_i32_440 v594
  v595.toNat
def k0_dev62 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_444 : BitVec 32 := 31#32
  let v603 : BitVec 32 := Scalar.addi v2 c31_i32_444
  let c32_i32_445 : BitVec 32 := 32#32
  let v604 : BitVec 32 := Scalar.remsi v603 c32_i32_445
  let c1_i32_448 : BitVec 32 := 1#32
  let v606 : BitVec 32 := Scalar.muli v604 c1_i32_448
  let v607 : BitVec 32 := Scalar.addi c0_i32_449 v606
  v607.toNat
def k0_off6 (d0 : Dev nD) (c1_i32_453 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v615 : BitVec 32 := Scalar.addi v2 c1_i32_453
  let c32_i32_454 : BitVec 32 := 32#32
  let v616 : BitVec 32 := Scalar.remsi v615 c32_i32_454
  ![v616.toNat]
def k0_off7 (d0 : Dev nD) (c1_i32_453 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v615 : BitVec 32 := Scalar.addi v2 c1_i32_453
  let c32_i32_454 : BitVec 32 := 32#32
  let v616 : BitVec 32 := Scalar.remsi v615 c32_i32_454
  let c0_i32_458 : BitVec 32 := 0#32
  let c0_i32_459 : BitVec 32 := 0#32
  ![v616.toNat, 0, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x256x512 : Shape := ⟨3, ![1024, 256, 512]⟩
abbrev S1024x512 : Shape := ⟨2, ![1024, 512]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x2, .i32⟩
  | .hbm, ⟨3, _⟩ => ⟨S128x256x512, .bf16⟩
  | .hbm, ⟨4, _⟩ => ⟨S1024x256, .f32⟩
  | .hbm, ⟨5, _⟩ => ⟨S256x128, .f32⟩
  | .hbm, ⟨6, _⟩ => ⟨S1024x128, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x128, .f32⟩
  | .hbm, ⟨17, _⟩ => ⟨S1024x128, .f32⟩
  | .hbm, ⟨18, _⟩ => ⟨S_, .i32⟩
  | .hbm, ⟨19, _⟩ => ⟨S1024x2, .i32⟩
  | .hbm, ⟨20, _⟩ => ⟨S1024x2, .i1⟩
  | .hbm, ⟨21, _⟩ => ⟨S_, .i32⟩
  | .hbm, ⟨22, _⟩ => ⟨S1024x2, .i32⟩
  | .hbm, ⟨23, _⟩ => ⟨S1024x2, .i32⟩
  | .hbm, ⟨24, _⟩ => ⟨S1024x2, .i32⟩
  | .hbm, ⟨25, _⟩ => ⟨S1024x2x1, .i32⟩
  | .hbm, ⟨26, _⟩ => ⟨S1024x2, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S128x256x512, .f32⟩
  | .hbm, ⟨31, _⟩ => ⟨S1024x1, .i32⟩
  | .hbm, ⟨32, _⟩ => ⟨S1024, .i32⟩
  | .hbm, ⟨33, _⟩ => ⟨S1024x1, .i32⟩
  | .hbm, ⟨34, _⟩ => ⟨S1024x256x512, .f32⟩
  | .hbm, ⟨35, _⟩ => ⟨S1024x512, .f32⟩
  | .hbm, ⟨36, _⟩ => ⟨S1024x1, .i32⟩
  | .hbm, ⟨37, _⟩ => ⟨S1024, .i32⟩
  | .hbm, ⟨38, _⟩ => ⟨S1024x1, .i32⟩
  | .hbm, ⟨39, _⟩ => ⟨S1024x256x512, .f32⟩
  | .hbm, ⟨40, _⟩ => ⟨S1024x512, .f32⟩
  | .hbm, ⟨41, _⟩ => ⟨S1024x1, .f32⟩
  | .hbm, ⟨42, _⟩ => ⟨S1024x512, .f32⟩
  | .hbm, ⟨43, _⟩ => ⟨S1024x512, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.KernelIdealProtocol.lean ====
/-
# 01_k — the exchange: devices, semaphores, contents, and the schedule of every cell

Every device keeps the partial result of its four experts for all tokens, gives the rows of peer `p` to `p`, and
adds up the 32 rows that reach it. Per device there is the runtime's barrier cell (31 units, one from each peer),
a send cell for each distance 1..31, and a receive cell for each peer.

* A unit on the barrier cell of `c` from `d` hands over slot `c` of `d`'s exchange buffer: what `c` needs to copy to `d`.
* The send cell of distance `k` hands back the rows that were read; the receive cell of peer `s` hands over slot `s`
  of the exchange buffer, holding the rows of `c` in the partial result of `s`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic
public import Idealize.SL.BI.BigOpNat
public import Mathlib.Algebra.Order.BigOperators.Group.LocallyFinite

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device at distance `j` after `c`. -/
def pr (c : Fin 32) (j : ℕ) : Fin 32 := ⟨(c.val + j) % 32, Nat.mod_lt _ (by decide)⟩

theorem pr_injOn (c : Fin 32) : Set.InjOn (pr c) (Finset.Ico 1 32 : Finset ℕ) := by
  intro a ha b hb h
  have ha := Finset.mem_Ico.mp (Finset.mem_coe.mp ha)
  have hb := Finset.mem_Ico.mp (Finset.mem_coe.mp hb)
  have := congrArg Fin.val h
  simp only [pr] at this
  omega

theorem pr_ne (c : Fin 32) {j : ℕ} (hj : 1 ≤ j ∧ j < 32) : pr c j ≠ c := by
  intro h
  have := congrArg Fin.val h
  simp only [pr] at this
  omega

theorem image_pr (c : Fin 32) : (Finset.Ico 1 32).image (pr c) = Finset.univ.erase c := by
  ext d
  rw [Finset.mem_image, Finset.mem_erase]
  constructor
  · rintro ⟨j, hj, rfl⟩
    exact ⟨pr_ne c (Finset.mem_Ico.mp hj), Finset.mem_univ _⟩
  · rintro ⟨hd, -⟩
    have hv : d.val ≠ c.val := fun h => hd (Fin.ext h)
    refine ⟨(d.val + 32 - c.val) % 32, Finset.mem_Ico.mpr (by omega), Fin.ext ?_⟩
    simp only [pr]
    omega

theorem pr_zero_val {j : ℕ} (hj : j < 32) : (pr 0 j).val = j := by
  simp only [pr]
  have : ((0 : Fin 32) : ℕ) = 0 := rfl
  omega

/-- Over the peers of `c`, by distance. -/
theorem bigSep_peers (c : Fin 32) (Φ : Fin 32 → sProp 𝕄) :
    bigSep (Finset.univ.erase c) Φ = bigSep (Finset.Ico 1 32) fun j => Φ (pr c j) := by
  rw [← image_pr, bigSep_image_of_injOn (pr_injOn c)]

/-- Over all devices: `c` itself, and the peers by distance. -/
theorem bigSep_devs (c : Fin 32) (Φ : Fin 32 → sProp 𝕄) :
    bigSep Finset.univ Φ = iprop(Φ c ∗ bigSep (Finset.Ico 1 32) fun j => Φ (pr c j)) := by
  rw [← bigSep_peers]; exact bigSep_erase (Finset.mem_univ c)

/-- The first of a run of distances. -/
theorem bigSep_first {k : ℕ} (h : k < 32) (Φ : ℕ → sProp 𝕄) :
    bigSep (Finset.Ico k 32) Φ = iprop(Φ k ∗ bigSep (Finset.Ico (k + 1) 32) Φ) :=
  bigSep_Ico_succ_bot h Φ

/-- One more at the end of a run of distances. -/
theorem bigSep_last {k : ℕ} (h : 1 ≤ k) (Φ : ℕ → sProp 𝕄) :
    bigSep (Finset.Ico 1 (k + 1)) Φ = iprop(Φ k ∗ bigSep (Finset.Ico 1 k) Φ) := by
  rw [← Finset.insert_Ico_right_eq_Ico_add_one h]
  exact bigSep_insert (by simp)

/-! ## The buffers and cells -/

abbrev xM : Memref sig .tc .vmem S1024x256 .bf16 := Memref.whole cc0_stg0_0
abbrev rwM : Memref sig .tc .vmem S256x128 .bf16 := Memref.whole cc0_stg1_0
abbrev ixM : Memref sig .tc .vmem S1024x2 .i32 := Memref.whole cc0_stg2_0
abbrev ewM : Memref sig .tc .vmem S4x256x512 .bf16 := Memref.whole cc0_stg3_0
abbrev oM : Memref sig .tc .vmem S32x512 .f32 := Memref.whole cc0_stg4_0
/-- The partial result of the device's own experts, all tokens. -/
abbrev pM : Memref sig .tc .vmem S1024x512 .bf16 := Memref.whole cc0_scratch0
/-- The exchange buffer: one slot of 32 rows for each device. -/
abbrev cM : Memref sig .tc .vmem S32x32x512 .bf16 := Memref.whole cc0_scratch1

theorem slot_inb (s : Fin 32) : ∀ a, (![s.val, 0, 0] : Fin 3 → ℕ) a + S1x32x512.size a ≤ S32x32x512.size a := by
  intro a
  have := s.isLt
  fin_cases a
  · show s.val + 1 ≤ 32; omega
  · show 0 + 32 ≤ 32; omega
  · show 0 + 512 ≤ 512; omega

theorem rows_inb (d : Fin 32) : ∀ a, (![32 * d.val, 0] : Fin 2 → ℕ) a + S32x512.size a ≤ S1024x512.size a := by
  intro a
  have := d.isLt
  fin_cases a
  · show 32 * d.val + 32 ≤ 1024; omega
  · show 0 + 512 ≤ 512; omega

/-- Slot `s` of the exchange buffer. -/
abbrev slotM (s : Fin 32) : Memref sig .tc .vmem S32x512 .bf16 :=
  (cM.slice (Rect.unit (s := S32x32x512) ![s.val, 0, 0] S1x32x512.size (slot_inb s)) (fun _ => rfl)).squeeze S32x512 squeezes_S1x32x512_S32x512
/-- The rows of device `d` in the partial result. -/
abbrev rowsM (d : Fin 32) : Memref sig .tc .vmem S32x512 .bf16 :=
  pM.slice (Rect.unit (s := S1024x512) ![32 * d.val, 0] S32x512.size (rows_inb d)) (fun _ => rfl)

/-- The runtime's barrier semaphore; the send semaphore of a distance; the receive semaphore of a peer. -/
abbrev barS : Sem sig := (SemArray.scalar (sig.barrier 0 rfl) : Sems sig S_).sem
abbrev dmaS (i : Fin 64) : DmaSem sig := ⟨5 + i.val, by have := i.isLt; show 5 + i.val < 69; omega⟩
abbrev sendS (k : Fin 32) : DmaSem sig := dmaS (Fin.castAdd 32 k)
abbrev recvS (s : Fin 32) : DmaSem sig := dmaS (Fin.natAdd 32 s)

abbrev barCell (c : Dev nD) : GSem nD τ sig := ((c : Thread nD τ), .reg barS)
abbrev dmaCell (c : Dev nD) (i : Fin 64) : GSem nD τ sig := ((c : Thread nD τ), .dma (dmaS i))
abbrev sendCell (c : Dev nD) (k : Fin 32) : GSem nD τ sig := dmaCell c (Fin.castAdd 32 k)
abbrev recvCell (c : Dev nD) (s : Fin 32) : GSem nD τ sig := dmaCell c (Fin.natAdd 32 s)

/-- The kernel's own semaphores, as the launch indexes them; and all cells of a device. -/
abbrev osem : Fin 64 → SemLoc sig := fun i => .dma (dmaS i)
abbrev csem : Unit ⊕ Fin 64 → SemLoc sig := Sum.elim (fun _ => .reg barS) osem
abbrev kcell (ck : Dev nD × (Unit ⊕ Fin 64)) : GSem nD τ sig := ((ck.1 : Thread nD τ), csem ck.2)

/-- The credit of one transfer of 32 rows. -/
abbrev N : ℕ := (slotM 0).view.dmaCredit
theorem N_pos : 0 < N := View.dmaCredit_pos _ (by decide)

/-! ## Contents -/

def xstg (c : Dev nD) : (cc0_stg0_0 : Ref sig .tc).ty.Contents (Elt F) :=
  (win0_0.blk t0_0).view.read (Elt F) (m ((c : Thread nD τ).loc main_arg0))
def rwstg (c : Dev nD) : (cc0_stg1_0 : Ref sig .tc).ty.Contents (Elt F) :=
  (win0_1.blk t0_0).view.read (Elt F) (m ((c : Thread nD τ).loc main_arg1))
def ixstg (c : Dev nD) : (cc0_stg2_0 : Ref sig .tc).ty.Contents (Elt F) :=
  (win0_2.blk t0_0).view.read (Elt F) (m ((c : Thread nD τ).loc main_arg2))
def ewstg (c : Dev nD) : (cc0_stg3_0 : Ref sig .tc).ty.Contents (Elt F) :=
  (win0_3.blk t0_0).view.read (Elt F) (m ((c : Thread nD τ).loc main_arg3))

/-- The two columns of expert numbers. -/
def ix0 (X : (cc0_stg2_0 : Ref sig .tc).ty.Contents (Elt F)) : Vec F S1024x1 .i32 :=
  ixM.view.readAt (Elt F) (Rect.unit (s := S1024x2) ![0, 0] S1024x1.size inb_S1024x2_S1024x1_0_0).toLoadRect X
def ix1 (X : (cc0_stg2_0 : Ref sig .tc).ty.Contents (Elt F)) : Vec F S1024x1 .i32 :=
  ixM.view.readAt (Elt F) (Rect.unit (s := S1024x2) ![0, 1] S1024x1.size inb_S1024x2_S1024x1_0_1).toLoadRect X
/-- The device's four experts. -/
def ew0 (X : (cc0_stg3_0 : Ref sig .tc).ty.Contents (Elt F)) : Vec F S1x256x512 .bf16 :=
  ewM.view.readAt (Elt F) (Rect.unit (s := S4x256x512) ![0, 0, 0] S1x256x512.size inb_S4x256x512_S1x256x512_0_0_0).toLoadRect X
def ew1 (X : (cc0_stg3_0 : Ref sig .tc).ty.Contents (Elt F)) : Vec F S1x256x512 .bf16 :=
  ewM.view.readAt (Elt F) (Rect.unit (s := S4x256x512) ![1, 0, 0] S1x256x512.size inb_S4x256x512_S1x256x512_1_0_0).toLoadRect X
def ew2 (X : (cc0_stg3_0 : Ref sig .tc).ty.Contents (Elt F)) : Vec F S1x256x512 .bf16 :=
  ewM.view.readAt (Elt F) (Rect.unit (s := S4x256x512) ![2, 0, 0] S1x256x512.size inb_S4x256x512_S1x256x512_2_0_0).toLoadRect X
def ew3 (X : (cc0_stg3_0 : Ref sig .tc).ty.Contents (Elt F)) : Vec F S1x256x512 .bf16 :=
  ewM.view.readAt (Elt F) (Rect.unit (s := S4x256x512) ![3, 0, 0] S1x256x512.size inb_S4x256x512_S1x256x512_3_0_0).toLoadRect X

/-- The device's number, as the kernel computes it. -/
def devW (c : Dev nD) : BitVec 32 := Scalar.remsi (Scalar.divsi (Dev.word c) 1#32) 32#32

/-- The sum over the device's first two experts, from what the kernel reads. -/
def acc2 (c : Dev nD) (x : Vec F S1024x256 .bf16) (rw : Vec F S256x128 .bf16) (i0 i1 : Vec F S1024x1 .i32)
    (w0 w1 : Vec F S1x256x512 .bf16) : FVec F S1024x512 .f32 :=
  k0_pay12 (devW c) (k0_pay2 x) (k0_pay4 i0) (k0_pay5 i1) (k0_pay9 x rw i0 i1) (k0_pay10 x rw i0 i1) (k0_pay11 (F := F))
    (Scalar.muli (devW c) 4#32) 0#32 w0 w1

/-- The device's partial result, from what the kernel reads. -/
def partOf (c : Dev nD) (x : Vec F S1024x256 .bf16) (rw : Vec F S256x128 .bf16) (i0 i1 : Vec F S1024x1 .i32)
    (w0 w1 w2 w3 : Vec F S1x256x512 .bf16) : Vec F S1024x512 .bf16 :=
  k0_pay16 (devW c) (k0_pay2 x) (k0_pay4 i0) (k0_pay5 i1) (k0_pay9 x rw i0 i1) (k0_pay10 x rw i0 i1)
    (acc2 c x rw i0 i1 w0 w1) (k0_pay13 (devW c) (k0_pay4 i0) (k0_pay9 x rw i0 i1)) (k0_pay14 (devW c) (k0_pay5 i1)) (k0_pay15 (F := F)) w2 w3

/-- The partial result of device `c`. -/
def partV (c : Dev nD) : (cc0_scratch0 : Ref sig .tc).ty.Contents (Elt F) :=
  partOf c (xstg m c) (rwstg m c) (ix0 (ixstg m c)) (ix1 (ixstg m c)) (ew0 (ewstg m c)) (ew1 (ewstg m c)) (ew2 (ewstg m c)) (ew3 (ewstg m c))

/-- Row `r` of device `c`, column `f`, as an index of the partial result. -/
def rowIx (c r : Fin 32) (f : Fin 512) : S1024x512.Idx :=
  ValueIdx.ix2 (n0 := 1024) (n1 := 512) ⟨32 * c.val + r.val, by have := c.isLt; have := r.isLt; omega⟩ f

/-- The exchange buffer of device `c` once every peer's rows have landed: slot `s` holds the rows of `c` in the
    partial result of `s`. -/
def commV (c : Dev nD) : (cc0_scratch1 : Ref sig .tc).ty.Contents (Elt F) :=
  fun i : S32x32x512.Idx => (partV m (i 0) : S1024x512.Idx → Elt F .bf16) (rowIx c (i 1) (i 2))

/-- The kernel's result on device `c`: the sum over the slots. -/
def outV (c : Dev nD) : (cc0_stg4_0 : Ref sig .tc).ty.Contents (Elt F) := k0_pay1 (commV m c)

/-- Slot `s` of device `c`'s exchange buffer; the rows of device `d` in `c`'s partial result. -/
def slotPts (c : Dev nD) (s : Fin 32) (f : Buf (Elt F) ((c : Thread nD τ).loc cc0_scratch1)) : sProp 𝕄 :=
  ((c : Thread nD τ).loc cc0_scratch1) ↦[(slotM s).view.set]{fullShare} f
def rowPts (c : Dev nD) (d : Fin 32) (f : Buf (Elt F) ((c : Thread nD τ).loc cc0_scratch0)) : sProp 𝕄 :=
  ((c : Thread nD τ).loc cc0_scratch0) ↦[(rowsM d).view.set]{fullShare} f

instance slotPts_storable (c : Dev nD) (s f) : BI.Storable (upEmb : UEmb _ 𝕄) (slotPts (F := F) c s f) := by unfold slotPts; infer_instance
instance rowPts_storable (c : Dev nD) (d f) : BI.Storable (upEmb : UEmb _ 𝕄) (rowPts (F := F) c d f) := by unfold rowPts; infer_instance

/-! ## The schedule -/

/-- One round. A barrier cell has one unit from each other device; a send cell of a distance 1..31 and a receive
    cell of a peer have one transfer's credit. The send cell of distance 0 and the receive cell of the device itself
    are used by nobody. -/
def xRd : Rounds.Schedule (GSem nD τ sig) (Fin 32) 𝕄 where
  duties g r :=
    if r = 0 ∧ g.1.2 = .tc then
      match g.2 with
      | .reg s => if s = barS then Finset.univ.erase g.1.1 else ∅
      | .dma q => if (5 < q.val ∧ q.val < 37) ∨ (37 ≤ q.val ∧ q.val ≠ 37 + g.1.1.val) then {0} else ∅
    else ∅
  unitless _ := False
  amount g _ _ := match g.2 with
    | .reg _ => 1
    | .dma _ => N
  payload g _ d := match g.2 with
    | .reg _ => iprop(∃ f, slotPts d g.1.1 f)
    | .dma q => if q.val < 37 then rowPts g.1.1 (pr g.1.1 (q.val - 5)) (partV m g.1.1) else slotPts g.1.1 (pr 0 (q.val - 37)) (commV m g.1.1)
  amount_pos g _ _ _ := by
    rcases g with ⟨_, q | q⟩
    · exact Nat.one_pos
    · exact N_pos

instance xRd_payload_storable (g : GSem nD τ sig) (r : ℕ) (d : Fin 32) :
    BI.Storable (upEmb : UEmb _ 𝕄) ((xRd (F := F) m).payload g r d) := by
  rcases g with ⟨g, q | q⟩
  · show BI.Storable upEmb iprop(∃ f, slotPts d g.1 f)
    infer_instance
  · show BI.Storable upEmb (if q.val < 37 then rowPts g.1 (pr g.1 (q.val - 5)) (partV m g.1) else slotPts g.1 (pr 0 (q.val - 37)) (commV m g.1))
    split <;> infer_instance

section Sched
variable (c : Dev nD)

theorem duties_bar : (xRd (F := F) m).duties (barCell c) 0 = Finset.univ.erase c := by
  show (if (0 = 0 ∧ (Proc.tc : Proc τ) = .tc) then (if barS = barS then Finset.univ.erase c else ∅) else ∅) = Finset.univ.erase c
  rw [if_pos ⟨rfl, rfl⟩, if_pos rfl]

theorem duties_send {k : Fin 32} (hk : 0 < k.val) : (xRd (F := F) m).duties (sendCell c k) 0 = {0} := by
  have h := k.isLt
  show (if (0 = 0 ∧ (Proc.tc : Proc τ) = .tc) then
    (if (5 < 5 + k.val ∧ 5 + k.val < 37) ∨ (37 ≤ 5 + k.val ∧ 5 + k.val ≠ 37 + c.val) then {0} else ∅) else ∅) = ({0} : Finset (Fin 32))
  rw [if_pos ⟨rfl, rfl⟩, if_pos (Or.inl (by omega))]

theorem duties_recv {s : Fin 32} (hs : s ≠ c) : (xRd (F := F) m).duties (recvCell c s) 0 = {0} := by
  have h : s.val ≠ c.val := fun h => hs (Fin.ext h)
  show (if (0 = 0 ∧ (Proc.tc : Proc τ) = .tc) then
    (if (5 < 5 + (32 + s.val) ∧ 5 + (32 + s.val) < 37) ∨ (37 ≤ 5 + (32 + s.val) ∧ 5 + (32 + s.val) ≠ 37 + c.val) then {0} else ∅) else ∅) = ({0} : Finset (Fin 32))
  rw [if_pos ⟨rfl, rfl⟩, if_pos (Or.inr (by omega))]

theorem duties_send_zero (r : ℕ) : (xRd (F := F) m).duties (sendCell c 0) r = ∅ := by
  show (if (r = 0 ∧ (Proc.tc : Proc τ) = .tc) then
    (if (5 < 5 + ((0 : Fin 32) : ℕ) ∧ 5 + ((0 : Fin 32) : ℕ) < 37) ∨ (37 ≤ 5 + ((0 : Fin 32) : ℕ) ∧ 5 + ((0 : Fin 32) : ℕ) ≠ 37 + c.val) then {0} else ∅) else ∅) = (∅ : Finset (Fin 32))
  have h0 : ((0 : Fin 32) : ℕ) = 0 := rfl
  split
  · rw [if_neg (by omega)]
  · rfl

theorem duties_recv_self (r : ℕ) : (xRd (F := F) m).duties (recvCell c c) r = ∅ := by
  show (if (r = 0 ∧ (Proc.tc : Proc τ) = .tc) then
    (if (5 < 5 + (32 + c.val) ∧ 5 + (32 + c.val) < 37) ∨ (37 ≤ 5 + (32 + c.val) ∧ 5 + (32 + c.val) ≠ 37 + c.val) then {0} else ∅) else ∅) = (∅ : Finset (Fin 32))
  split
  · rw [if_neg (by omega)]
  · rfl

theorem duties_later (g : GSem nD τ sig) : ∀ r, 1 ≤ r → (xRd (F := F) m).duties g r = ∅ :=
  fun r hr => by dsimp only [xRd]; exact if_neg fun h => by omega

theorem amount_bar (d : Fin 32) : (xRd (F := F) m).amount (barCell c) 0 d = 1 := rfl
theorem amount_dma (i : Fin 64) (d : Fin 32) : (xRd (F := F) m).amount (dmaCell c i) 0 d = N := rfl

theorem expect_bar : (xRd (F := F) m).expect (barCell c) 0 = 31 := by
  unfold Schedule.expect Schedule.amountOf
  rw [duties_bar, Finset.sum_congr rfl fun d _ => amount_bar m c d, Finset.sum_const, Finset.card_erase_of_mem (Finset.mem_univ _), Finset.card_univ, smul_eq_mul]
  rfl
theorem expect_send {k : Fin 32} (hk : 0 < k.val) : (xRd (F := F) m).expect (sendCell c k) 0 = N := by
  unfold Schedule.expect Schedule.amountOf; rw [duties_send m c hk, Finset.sum_singleton, amount_dma]
theorem expect_recv {s : Fin 32} (hs : s ≠ c) : (xRd (F := F) m).expect (recvCell c s) 0 = N := by
  unfold Schedule.expect Schedule.amountOf; rw [duties_recv m c hs, Finset.sum_singleton, amount_dma]

theorem payload_bar (d : Fin 32) : (xRd (F := F) m).payload (barCell c) 0 d = iprop(∃ f, slotPts d c f) := rfl
theorem payload_send (k d : Fin 32) : (xRd (F := F) m).payload (sendCell c k) 0 d = rowPts c (pr c k.val) (partV m c) := by
  show (if 5 + k.val < 37 then rowPts c (pr c (5 + k.val - 5)) (partV m c) else slotPts c (pr 0 (5 + k.val - 37)) (commV m c)) = _
  rw [if_pos (by omega), Nat.add_sub_cancel_left]
theorem payload_recv (s d : Fin 32) : (xRd (F := F) m).payload (recvCell c s) 0 d = slotPts c s (commV m c) := by
  show (if 5 + (32 + s.val) < 37 then rowPts c (pr c (5 + (32 + s.val) - 5)) (partV m c) else slotPts c (pr 0 (5 + (32 + s.val) - 37)) (commV m c)) = _
  rw [if_neg (by omega), show pr 0 (5 + (32 + s.val) - 37) = s from Fin.ext (by rw [pr_zero_val (by omega)]; omega)]

/-- What the barrier's units hand over: slot `c` of every peer's exchange buffer. -/
theorem rest_bar : bigSep ((xRd (F := F) m).duties (barCell c) 0 \ ∅) (fun d => (xRd (F := F) m).payload (barCell c) 0 d)
    = bigSep (Finset.Ico 1 32) fun j => iprop(∃ f, slotPts (pr c j) c f) := by
  rw [Finset.sdiff_empty, duties_bar, ← bigSep_peers c fun d => iprop(∃ f, slotPts d c f)]
  rfl
theorem rest_send {k : Fin 32} (hk : 0 < k.val) :
    bigSep ((xRd (F := F) m).duties (sendCell c k) 0 \ ∅) (fun d => (xRd (F := F) m).payload (sendCell c k) 0 d) = rowPts c (pr c k.val) (partV m c) := by
  rw [Finset.sdiff_empty, duties_send m c hk, bigSep_singleton, payload_send]
theorem rest_recv {s : Fin 32} (hs : s ≠ c) :
    bigSep ((xRd (F := F) m).duties (recvCell c s) 0 \ ∅) (fun d => (xRd (F := F) m).payload (recvCell c s) 0 d) = slotPts c s (commV m c) := by
  rw [Finset.sdiff_empty, duties_recv m c hs, bigSep_singleton, payload_recv]

end Sched

/-! ## What each device owes at launch; the levels -/

/-- A unit on the barrier cell of each peer at distance `k` or more. -/
def oBar (c : Dev nD) (k : ℕ) : CellTallies nD τ sig Unit := ∑ j ∈ Finset.Ico k 32, tallyAt (barCell (pr c j)) () 1
/-- A transfer's credit on the receive cell of each peer at distance `k` or more. -/
def oSnd (c : Dev nD) (k : ℕ) : CellTallies nD τ sig Unit := ∑ j ∈ Finset.Ico k 32, tallyAt (recvCell (pr c j) c) () N
def O₀ (c : Dev nD) : CellTallies nD τ sig Unit := oSnd c 1 + oBar c 1

theorem oBar_first (c : Dev nD) {k : ℕ} (h : k < 32) : oBar c k = oBar c (k + 1) + tallyAt (barCell (pr c k)) () 1 := by
  unfold oBar; rw [Finset.sum_eq_sum_Ico_succ_bot h, add_comm]
theorem oSnd_first (c : Dev nD) {k : ℕ} (h : k < 32) : oSnd c k = oSnd c (k + 1) + tallyAt (recvCell (pr c k) c) () N := by
  unfold oSnd; rw [Finset.sum_eq_sum_Ico_succ_bot h, add_comm]
theorem oBar_end (c : Dev nD) : oBar c 32 = 0 := by unfold oBar; rw [Finset.Ico_self, Finset.sum_empty]
theorem oSnd_end (c : Dev nD) : oSnd c 32 = 0 := by unfold oSnd; rw [Finset.Ico_self, Finset.sum_empty]

def L (g : GSem nD τ sig) : Finset Unit := if g.1.2 = .tc then {()} else ∅
/-- Barrier cells at 1, receive cells at 2, every other at 0. -/
def lv (g : GSem nD τ sig) (_ : Unit) : ℕ := match g.2 with
  | .reg _ => 1
  | .dma q => if 37 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 32) (u : Unit) : lv (recvCell c s) u = 2 := by
  show (if 37 ≤ 5 + (32 + s.val) then 2 else 0) = 2
  exact if_pos (by omega)

theorem sum_apply (S : Finset ℕ) (f : ℕ → CellTallies nD τ sig Unit) (g : GSem nD τ sig) (u : Unit) :
    (∑ j ∈ S, f j) g u = ∑ j ∈ S, f j g u := by
  rw [Finset.sum_apply, Finsupp.finset_sum_apply]

theorem oBar_pos {c : Dev nD} {k : ℕ} {g : GSem nD τ sig} {u : Unit} (h : 0 < oBar c k g u) : ∃ d : Dev nD, g = barCell d := by
  unfold oBar at h
  rw [sum_apply] at h
  obtain ⟨j, -, hj⟩ := Finset.exists_ne_zero_of_sum_ne_zero (Nat.pos_iff_ne_zero.mp h)
  rw [tallyAt_apply] at hj
  by_contra hn
  exact hj (if_neg fun h' => hn ⟨_, h'.1⟩)

theorem oSnd_pos {c : Dev nD} {k : ℕ} {g : GSem nD τ sig} {u : Unit} (h : 0 < oSnd c k g u) : ∃ (d : Dev nD) (s : Fin 32), g = recvCell d s := by
  unfold oSnd at h
  rw [sum_apply] at h
  obtain ⟨j, -, hj⟩ := Finset.exists_ne_zero_of_sum_ne_zero (Nat.pos_iff_ne_zero.mp h)
  rw [tallyAt_apply] at hj
  by_contra hn
  exact hj (if_neg fun h' => hn ⟨_, _, h'.1⟩)

theorem O₀_pos {c : Dev nD} {g : GSem nD τ sig} {u : Unit} (h : 0 < O₀ c g u) :
    (∃ (d : Dev nD) (s : Fin 32), g = recvCell d s) ∨ ∃ d : Dev nD, g = barCell d := by
  unfold O₀ at h
  rw [Pi.add_apply, Finsupp.add_apply] at h
  rcases Nat.pos_iff_ne_zero.mp h |> fun h => (by omega : 0 < oSnd c 1 g u ∨ 0 < oBar c 1 g u) with h | h
  · exact Or.inl (oSnd_pos h)
  · exact Or.inr (oBar_pos h)

/-- A staging copy's wait sits below everything that a device owes. -/
theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact le_of_eq (if_neg (by omega)))
      (fun g u hg => by
        rcases O₀_pos hg with ⟨d, s, rfl⟩ | ⟨d, rfl⟩
        · rw [lv_recv]; decide
        · exact Nat.one_pos)
  · rw [MayWait_zero]; iintro -; iempintro

/-- At its barrier wait a device owes receive cells only: these are above its barrier cell. -/
theorem mayWait_bar (c : Dev nD) : (levAts L lv : sProp 𝕄) ⊢ MayWait (c : Thread nD τ) (.reg barS) () (oSnd c 1) :=
  MayOwe.of_cut (L := L) (lev := lv) 1 (fun p hp => by rw [Finset.mem_singleton.mp hp, L_tc]; exact Finset.mem_singleton_self _)
    (fun g u hg => by obtain ⟨d, s, rfl⟩ := oSnd_pos hg; exact Finset.mem_singleton_self _)
    (fun p hp => by rw [Finset.mem_singleton.mp hp]; exact le_refl 1)
    (fun g u hg => by obtain ⟨d, s, rfl⟩ := oSnd_pos hg; rw [lv_recv]; decide)

end Cert.KernelIdealProof

end
-- ==== Proof.KernelIdealSteps.lean ====
/-
# 01_k — one step of each kind, at a symbolic distance

The kernel's exchange is unrolled: 31 signals, one barrier wait, 31 transfers, 31 receive waits, 31 send waits. Each
kind has one state, indexed by the distance that is next, and one step lemma from that state to the next.
-/
module

public import proofs.«01_k».proof.Proof.KernelIdealProtocol
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Where slots and rows lie -/

theorem slot_emb (s : Fin 32) (j : S32x512.Idx) :
    (slotM s).view.emb j = (ValueIdx.ix3 (n0 := 32) (n1 := 32) (n2 := 512) s (j 0) (j 1) : S32x32x512.Idx) := by
  show (Rect.unit (s := S32x32x512) ![s.val, 0, 0] S1x32x512.size (slot_inb s)).emb
    (Shape.reshapeEquiv squeezes_S1x32x512_S32x512.numel_eq j) = _
  rw [show Shape.reshapeEquiv squeezes_S1x32x512_S32x512.numel_eq j = (Fin.cons ⟨0, Nat.one_pos⟩ j : S1x32x512.Idx) from
    Shape.reshapeEquiv_cons_one (d := ![32, 512]) squeezes_S1x32x512_S32x512.numel_eq j]
  funext a
  refine Fin.ext ?_
  rw [ValueKit.rect_emb_unit_val]
  fin_cases a
  · show s.val + 0 = s.val; omega
  · show 0 + (j 0).val = (j 0).val; omega
  · show 0 + (j 1).val = (j 1).val; omega

theorem rows_emb (d : Fin 32) (j : S32x512.Idx) : (rowsM d).view.emb j = rowIx d (j 0) (j 1) := by
  show (Rect.unit (s := S1024x512) ![32 * d.val, 0] S32x512.size (rows_inb d)).emb j = _
  funext a
  refine Fin.ext ?_
  rw [ValueKit.rect_emb_unit_val]
  fin_cases a
  · rfl
  · show 0 + (j 1).val = (j 1).val; omega

theorem N_slot (s : Fin 32) (sm : DmaSem sig) : (slotM s).view.amount (.dma sm) = N := rfl

/-- What lands in slot `c` of device `d`: the rows of `d` in the partial result of `c`. -/
theorem landed (c d : Fin 32) (fd : Buf (Elt F) ((d : Thread nD τ).loc cc0_scratch1)) :
    (slotPts d c ((slotM c).view.write (Elt F) fd ((rowsM d).view.read (Elt F) (partV m c)) Finset.univ) : sProp 𝕄) = slotPts d c (commV m d) := by
  unfold slotPts
  refine pointsTo_congr fun i hi => ?_
  obtain ⟨j, -, rfl⟩ := Finset.mem_map.mp hi
  rw [View.write_emb_of_mem _ _ (Finset.mem_univ j), View.read_apply, rows_emb]
  show partV m c (rowIx d (j 0) (j 1)) = commV m d ((slotM c).view.emb j)
  rw [slot_emb]
  rfl

/-! ## The kernel's slices, named -/

theorem rows_eq (d : Fin 32) {off : Fin 2 → ℕ} (h : off = ![32 * d.val, 0]) (inb) :
    (Memref.whole cc0_scratch0 : Memref sig .tc .vmem S1024x512 .bf16).slice (Rect.unit (s := S1024x512) off S32x512.size inb) (fun _ => rfl) = rowsM d := by
  subst h; rfl
theorem slot_eq (s : Fin 32) {off : Fin 3 → ℕ} (h : off = ![s.val, 0, 0]) (inb) :
    ((Memref.whole cc0_scratch1 : Memref sig .tc .vmem S32x32x512 .bf16).slice (Rect.unit (s := S32x32x512) off S1x32x512.size inb) (fun _ => rfl)).squeeze S32x512 squeezes_S1x32x512_S32x512
      = slotM s := by
  subst h; rfl

theorem sem_inb (k : Fin 32) : ∀ a, (![k.val] : Fin 1 → ℕ) a + S1.size a ≤ S32.size a := by
  intro a
  have := k.isLt
  fin_cases a
  show k.val + 1 ≤ 32; omega

theorem send_sem' (k : Fin 32) : ((cc0_scratch2.slice (Rect.unit (s := S32) ![k.val] S1.size (sem_inb k))).squeeze S_ squeezes_S1_S_).sem = sendS k := by
  revert k; decide
theorem recv_sem' (k : Fin 32) : ((cc0_scratch3.slice (Rect.unit (s := S32) ![k.val] S1.size (sem_inb k))).squeeze S_ squeezes_S1_S_).sem = recvS k := by
  revert k; decide

theorem send_sem (k : Fin 32) {off : Fin 1 → ℕ} (h : off = ![k.val]) (inb) :
    ((cc0_scratch2.slice (Rect.unit (s := S32) off S1.size inb)).squeeze S_ squeezes_S1_S_).sem = sendS k := by
  subst h; exact send_sem' k
theorem recv_sem (k : Fin 32) {off : Fin 1 → ℕ} (h : off = ![k.val]) (inb) :
    ((cc0_scratch3.slice (Rect.unit (s := S32) off S1.size inb)).squeeze S_ squeezes_S1_S_).sem = recvS k := by
  subst h; exact recv_sem' k

/-! ## Every cell's invariant, and that its round 0 is reached -/

/-- The names the launch allocates the invariants at. -/
abbrev Names : Type := Dev nD × (Unit ⊕ Fin 64) → ℕ

def recs (K : Names) : sProp 𝕄 :=
  iprop(bigSep Finset.univ (fun ck : Dev nD × (Unit ⊕ Fin 64) => cellInv ER (xRd m) (K ck) (kcell ck))
    ∗ bigSep Finset.univ (fun ck : Dev nD × (Unit ⊕ Fin 64) => reached ER (kcell ck) 0))

instance recs_persistent (K : Names) : BI.Persistent (recs m K) := by unfold recs; infer_instance

variable (K : Names)

theorem inv_at (ck : Dev nD × (Unit ⊕ Fin 64)) :
    (bigSep Finset.univ fun ck : Dev nD × (Unit ⊕ Fin 64) => (cellInv ER (xRd m) (K ck) (kcell ck) : sProp 𝕄)) ⊢ cellInv ER (xRd m) (K ck) (kcell ck) :=
  bigSep_elim (Finset.mem_univ ck)
theorem reached_at (ck : Dev nD × (Unit ⊕ Fin 64)) :
    (bigSep Finset.univ fun ck : Dev nD × (Unit ⊕ Fin 64) => (reached ER (kcell ck) 0 : sProp 𝕄)) ⊢ reached ER (kcell ck) 0 :=
  bigSep_elim (Finset.mem_univ ck)

theorem recs_inv (ck : Dev nD × (Unit ⊕ Fin 64)) : recs m K ⊢ cellInv ER (xRd m) (K ck) (kcell ck) := by
  unfold recs
  iintro ⟨H, -⟩
  iapply (inv_at m K ck); iexact H
theorem recs_reached (ck : Dev nD × (Unit ⊕ Fin 64)) : recs m K ⊢ reached ER (kcell ck) 0 := by
  unfold recs
  iintro ⟨-, H⟩
  iapply (reached_at ck); iexact H

/-! ## The states -/

variable (c : Dev nD)

/-- The program from the next operation on, on the core of device `c`. -/
abbrev W {α : Type} (p : Prog (TpuEff nD τ sig (Elt F) Λ₀ .tc) α) (Q : α → sProp 𝕄) : sProp 𝕄 :=
  wp frame (wpE (defs₀ (F := F)) 𝒱₀ (c : Thread nD τ) none) Set.univ p Q

def sigIn (j : ℕ) : sProp 𝕄 := iprop(dutyTok ER (barCell (pr c j)) 0 c ∗ ∃ f, slotPts c (pr c j) f)
/-- The next signal is to distance `k`. -/
def SigSt (k : ℕ) : sProp 𝕄 :=
  iprop(recs m K ∗ (∃ W, owes (c : Thread nD τ) (oSnd c 1 + oBar c k) W) ∗ bigSep (Finset.Ico k 32) (sigIn c))

def sndIn (j : ℕ) : sProp 𝕄 :=
  iprop(dutyTok ER (sendCell c (pr 0 j)) 0 0 ∗ dutyTok ER (recvCell (pr c j) c) 0 0 ∗ rowPts c (pr c j) (partV m c))
def sndCr (j : ℕ) : sProp 𝕄 := cred (tallyAt (sendCell c (pr 0 j)) () N)
/-- The next transfer is to distance `k`. -/
def SndSt (k : ℕ) : sProp 𝕄 :=
  iprop(recs m K ∗ (∃ W, owes (c : Thread nD τ) (oSnd c k) W) ∗ bigSep (Finset.Ico k 32) (sndIn m c)
    ∗ bigSep (Finset.Ico k 32) (fun j => iprop(∃ f, slotPts (pr c j) c f)) ∗ bigSep (Finset.Ico 1 k) (sndCr c))

def rcvIn (j : ℕ) : sProp 𝕄 := iprop(cred (tallyAt (recvCell c (pr c j)) () N) ∗ atPos ER (recvCell c (pr c j)) 0 ∅ 0)
def rcvOut (j : ℕ) : sProp 𝕄 := iprop(semVal (recvCell c (pr c j)) 0 ∗ slotPts c (pr c j) (commV m c))
/-- The next receive wait is for the peer at distance `k`. -/
def RcvSt (k : ℕ) : sProp 𝕄 :=
  iprop(recs m K ∗ (∃ W, owes (c : Thread nD τ) 0 W) ∗ bigSep (Finset.Ico k 32) (rcvIn c) ∗ bigSep (Finset.Ico 1 k) (rcvOut m c))

def swtIn (j : ℕ) : sProp 𝕄 := iprop(sndCr c j ∗ atPos ER (sendCell c (pr 0 j)) 0 ∅ 0)
def swtOut (j : ℕ) : sProp 𝕄 := iprop(semVal (sendCell c (pr 0 j)) 0 ∗ rowPts c (pr c j) (partV m c))
/-- The next send wait is for distance `k`. -/
def SwtSt (k : ℕ) : sProp 𝕄 :=
  iprop(recs m K ∗ (∃ W, owes (c : Thread nD τ) 0 W) ∗ bigSep (Finset.Ico k 32) (swtIn c) ∗ bigSep (Finset.Ico 1 k) (swtOut m c))

/-! ## The steps -/

section Step

variable {c}

/-- The signal to distance `k`: the device's slot of that peer goes along. -/
theorem sig_step {α : Type} {Ψ : α → sProp 𝕄} {kk : PUnit → Prog (TpuEff nD τ sig (Elt F) Λ₀ .tc) α}
    {k : ℕ} (hk : 1 ≤ k ∧ k < 32) {n : Dev nD} (hn : n = pr c k) {sem : Sem sig} (hs : sem = barS) :
    SigSt m K c k ⊢ iprop((SigSt m K c (k + 1) -∗ W c (kk ⟨⟩) Ψ) -∗ W c (.op (.semSignal (n, .tc) sem (1#32 : BitVec 32).toInt.toNat) kk) Ψ) := by
  subst hn hs
  unfold SigSt
  rw [bigSep_first hk.2, oBar_first c hk.2]
  unfold sigIn
  iintro ⟨#HR, ⟨%Ws, HO⟩, ⟨Htok, Hslot⟩, Hrest⟩ Hk
  iapply (Rounds.wp_signal 𝒱₀ ER (xRd m) (c : Thread nD τ) none (dst := (pr c k : Thread nD τ)) (κ := K (pr c k, Sum.inl ())) (r := 0)
      (d := c) (by rw [duties_bar]; exact Finset.mem_erase.mpr ⟨(pr_ne c hk).symm, Finset.mem_univ _⟩) (amount_bar m (pr c k) c) ()
      (oSnd c 1 + oBar c (k + 1)) (add_assoc _ _ _).symm) $$ [HO Htok Hslot]
  · isplitr; · iapply (recs_inv m K (pr c k, Sum.inl ())); iexact HR
    isplitl [HO]; · iexact HO
    isplitl [Htok]; · iexact Htok
    isplitl [Hslot]
    · rw [payload_bar]; iexact Hslot
    · iapply (recs_reached m K (pr c k, Sum.inl ())); iexact HR
  iintro HO
  iapply Hk
  isplitr; · iexact HR
  isplitl [HO]; · iexists Ws; iexact HO
  iexact Hrest

/-- The barrier wait: every peer's slot of this device. -/
theorem bar_step {α : Type} {Ψ : α → sProp 𝕄} {kk : PUnit → Prog (TpuEff nD τ sig (Elt F) Λ₀ .tc) α}
    {sem : Sem sig} (hs : sem = barS) :
    iprop(SigSt m K c 32 ∗ levAts L lv ∗ cred (tallyAt (barCell c) () 31) ∗ atPos ER (barCell c) 0 ∅ 0 ∗ bigSep (Finset.Ico 1 32) (sndIn m c))
      ⊢ iprop(((SndSt m K c 1 ∗ semVal (barCell c) 0) -∗ W c (kk ⟨⟩) Ψ) -∗ W c (.op (.semWait sem (31#32 : BitVec 32).toInt.toNat) kk) Ψ) := by
  subst hs
  unfold SigSt
  rw [oBar_end, add_zero]
  iintro ⟨⟨#HR, ⟨%Ws, HO⟩, -⟩, #Hlev, Hc, Hat, Hsnd⟩ Hk
  iapply (Rounds.wp_wait_rest_token 𝒱₀ ER (xRd m) (c : Thread nD τ) none (κ := K (c, Sum.inl ()))
      (wpE_semWait_eq 𝒱₀ (c : Thread nD τ) none Set.univ) (Set.mem_univ _) () (O := oSnd c 1) (W := Ws) (R := 0) (m := 0) (T := ∅)
      (by rw [expect_bar]; decide)) $$ [Hc HO Hat]
  · isplitr; · iapply (recs_inv m K (c, Sum.inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (xRd m) (Set.mem_univ (K (c, Sum.inl ()))) (fun h => h) (R := 0 + 1) (duties_later m (barCell c))) $$ [Hat] with Hz
  · isplitr; · iapply (recs_inv m K (c, Sum.inl ())); iexact HR
    iexact Hat
  iapply Hk
  unfold SndSt
  isplitl [HO Hp Hsnd]
  · isplitr; · iexact HR
    isplitl [HO]; · iexists _; iexact HO
    isplitl [Hsnd]; · iexact Hsnd
    isplitl [Hp]; · iexact Hp
    rw [Finset.Ico_self, bigSep_empty]; iempintro
  iexact Hz

/-- The transfer to distance `k`. -/
theorem snd_step {α : Type} {Ψ : α → sProp 𝕄} {kk : PUnit → Prog (TpuEff nD τ sig (Elt F) Λ₀ .tc) α}
    {k : ℕ} (hk : 1 ≤ k ∧ k < 32) {n : Dev nD} (hn : n = pr c k)
    {src : Memref sig .tc .vmem S32x512 .bf16} (hsrc' : src = rowsM (pr c k)) {dst : Memref sig .tc .vmem S32x512 .bf16} (hdst' : dst = slotM c)
    {sS sR : DmaSem sig} (hsS : sS = sendS (pr 0 k)) (hsR : sR = recvS c)
    {hsc : dst.view.ref.isScScratch = false} {hsrc : src.view.WordExact} {hdst : dst.view.WordExact}
    {hsem : DmaTarget.Typed .vmem (.dma sR) (.remote (Dev.tc n : Thread nD τ) dst (.dma sS) hsc)} :
    SndSt m K c k ⊢ iprop((SndSt m K c (k + 1) -∗ W c (kk ⟨⟩) Ψ)
      -∗ W c (.op (.enqueueDma src (.remote (Dev.tc n : Thread nD τ) dst (.dma sS) hsc) (.dma sR) hsrc hdst hsem) kk) Ψ) := by
  subst hn hsrc' hdst' hsS hsR
  unfold SndSt
  rw [bigSep_first hk.2, bigSep_first hk.2, bigSep_last hk.1, oSnd_first c hk.2]
  unfold sndIn sndCr rowPts slotPts
  iintro ⟨#HR, ⟨%Ws, HO⟩, ⟨⟨HtS, HtR, Hrow⟩, Hrest⟩, ⟨⟨%fd, Hslot⟩, Hslots⟩, Hcr⟩ Hk
  iapply (Rounds.wp_send_pointsTo 𝒱₀ ER (xRd m) (c : Thread nD τ) none (κ₁ := K (c, Sum.inr (Fin.castAdd 32 (pr 0 k)))) (κ₂ := K (pr c k, Sum.inr (Fin.natAdd 32 c)))
      (r₁ := 0) (r₂ := 0) (d₁ := 0) (d₂ := 0) (fs := partV m c) (fd := fd) (q := fullShare)
      (by rw [duties_send m c (by rw [pr_zero_val hk.2]; exact hk.1)]; exact Finset.mem_singleton_self _)
      (by rw [duties_recv m (pr c k) (pr_ne c hk).symm]; exact Finset.mem_singleton_self _)
      () () N (N_slot c _) (amount_dma m c _ 0) (amount_dma m (pr c k) _ 0) (oSnd c (k + 1)) rfl (W := Ws)
      (by rw [payload_send, pr_zero_val hk.2]; exact BI.Entails.refl _)
      (by rw [payload_recv]; exact Entails.of_eq (landed m c (pr c k) fd))) $$ [HtS HtR Hrow Hslot HO]
  · isplitr; · iapply (recs_inv m K (c, Sum.inr (Fin.castAdd 32 (pr 0 k)))); iexact HR
    isplitr; · iapply (recs_inv m K (pr c k, Sum.inr (Fin.natAdd 32 c))); iexact HR
    isplitl [Hrow]; · iexact Hrow
    isplitl [Hslot]; · iexact Hslot
    isplitl [HO]; · iexact HO
    isplitl [HtS]; · iexact HtS
    isplitr; · iapply (recs_reached m K (c, Sum.inr (Fin.castAdd 32 (pr 0 k)))); iexact HR
    isplitl [HtR]; · iexact HtR
    iapply (recs_reached m K (pr c k, Sum.inr (Fin.natAdd 32 c))); iexact HR
  iintro ⟨Hc, HO⟩
  iapply Hk
  isplitr; · iexact HR
  isplitl [HO]; · iexists Ws; iexact HO
  isplitl [Hrest]; · iexact Hrest
  isplitl [Hslots]; · iexact Hslots
  isplitl [Hc]; · iexact Hc
  iexact Hcr

/-- All transfers are under way. -/
theorem snd_end : iprop(SndSt m K c 32 ∗ bigSep (Finset.Ico 1 32) (rcvIn c)) ⊢ iprop(RcvSt m K c 1 ∗ bigSep (Finset.Ico 1 32) (sndCr (F := F) c)) := by
  unfold SndSt RcvSt
  rw [oSnd_end]
  iintro ⟨⟨#HR, HO, -, -, Hcr⟩, Hin⟩
  isplitl [HO Hin]
  · isplitr; · iexact HR
    isplitl [HO]; · iexact HO
    isplitl [Hin]; · iexact Hin
    rw [Finset.Ico_self, bigSep_empty]; iempintro
  iexact Hcr

/-- The receive wait for the peer at distance `k`. -/
theorem rcv_step {α : Type} {Ψ : α → sProp 𝕄} {kk : PUnit → Prog (TpuEff nD τ sig (Elt F) Λ₀ .tc) α}
    {k : ℕ} (hk : 1 ≤ k ∧ k < 32) {src : Memref sig .tc .vmem S32x512 .bf16}
    {dst : Memref sig .tc .vmem S32x512 .bf16} (hdst' : dst = slotM (pr c k)) {sR : DmaSem sig} (hsR : sR = recvS (pr c k))
    {hsrc : src.view.WordExact} {hdst : dst.view.WordExact} :
    RcvSt m K c k ⊢ iprop((RcvSt m K c (k + 1) -∗ W c (kk ⟨⟩) Ψ) -∗ W c (.op (.waitDma2 sR src dst hsrc hdst) kk) Ψ) := by
  subst hdst' hsR
  unfold RcvSt
  rw [bigSep_first hk.2, bigSep_last hk.1]
  unfold rcvIn rcvOut
  iintro ⟨#HR, ⟨%Ws, HO⟩, ⟨⟨Hc, Hat⟩, Hrest⟩, Hout⟩ Hk
  iapply (Rounds.wp_wait_rest_token 𝒱₀ ER (xRd m) (c : Thread nD τ) none (κ := K (c, Sum.inr (Fin.natAdd 32 (pr c k))))
      (wpE_waitDma2_eq 𝒱₀ (c : Thread nD τ) none Set.univ) (Set.mem_univ _) () (O := 0) (W := Ws) (R := 0) (m := 0) (T := ∅)
      (by rw [Nat.zero_add, expect_recv m c (pr_ne c hk)])) $$ [Hc HO Hat]
  · isplitr; · iapply (recs_inv m K (c, Sum.inr (Fin.natAdd 32 (pr c k)))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c (pr_ne c hk))) $$ Hpay
  imod (Rounds.cell_close ER (xRd m) (Set.mem_univ (K (c, Sum.inr (Fin.natAdd 32 (pr c k))))) (fun h => h) (R := 0 + 1)
    (duties_later m (recvCell c (pr c k)))) $$ [Hat] with Hz
  · isplitr; · iapply (recs_inv m K (c, Sum.inr (Fin.natAdd 32 (pr c k)))); iexact HR
    iexact Hat
  iapply Hk
  isplitr; · iexact HR
  isplitl [HO]; · iexists _; iexact HO
  isplitl [Hrest]; · iexact Hrest
  isplitr [Hout]
  · isplitl [Hz]; · iexact Hz
    iexact Hp
  iexact Hout

/-- Everything has arrived. -/
theorem rcv_end : iprop(RcvSt m K c 32 ∗ bigSep (Finset.Ico 1 32) (swtIn c)) ⊢ iprop(SwtSt m K c 1 ∗ bigSep (Finset.Ico 1 32) (rcvOut m c)) := by
  unfold RcvSt SwtSt
  iintro ⟨⟨#HR, HO, -, Hout⟩, Hin⟩
  isplitl [HO Hin]
  · isplitr; · iexact HR
    isplitl [HO]; · iexact HO
    isplitl [Hin]; · iexact Hin
    rw [Finset.Ico_self, bigSep_empty]; iempintro
  iexact Hout

/-- The send wait for distance `k`. -/
theorem swt_step {α : Type} {Ψ : α → sProp 𝕄} {kk : PUnit → Prog (TpuEff nD τ sig (Elt F) Λ₀ .tc) α}
    {k : ℕ} (hk : 1 ≤ k ∧ k < 32) {src : Memref sig .tc .vmem S32x512 .bf16}
    {dst : Memref sig .tc .vmem S32x512 .bf16} (hdst' : dst = rowsM (pr c k)) {sS : DmaSem sig} (hsS : sS = sendS (pr 0 k))
    {hsrc : src.view.WordExact} {hdst : dst.view.WordExact} :
    SwtSt m K c k ⊢ iprop((SwtSt m K c (k + 1) -∗ W c (kk ⟨⟩) Ψ) -∗ W c (.op (.waitDma2 sS src dst hsrc hdst) kk) Ψ) := by
  subst hdst' hsS
  have hp : 0 < (pr 0 k).val := by rw [pr_zero_val hk.2]; exact hk.1
  unfold SwtSt
  rw [bigSep_first hk.2, bigSep_last hk.1]
  unfold swtIn swtOut sndCr
  iintro ⟨#HR, ⟨%Ws, HO⟩, ⟨⟨Hc, Hat⟩, Hrest⟩, Hout⟩ Hk
  iapply (Rounds.wp_wait_rest_token 𝒱₀ ER (xRd m) (c : Thread nD τ) none (κ := K (c, Sum.inr (Fin.castAdd 32 (pr 0 k))))
      (wpE_waitDma2_eq 𝒱₀ (c : Thread nD τ) none Set.univ) (Set.mem_univ _) () (O := 0) (W := Ws) (R := 0) (m := 0) (T := ∅)
      (by rw [Nat.zero_add, expect_send m c hp])) $$ [Hc HO Hat]
  · isplitr; · iapply (recs_inv m K (c, Sum.inr (Fin.castAdd 32 (pr 0 k)))); iexact HR
    isplitl [Hc]; · iexact Hc
    isplitl [HO]; · iexact HO
    isplitr; · rw [MayWait_zero]; iempintro
    iexact Hat
  iintro ⟨HO, Hat, -, Hpay⟩
  ihave Hp := (Entails.of_eq ((rest_send m c hp).trans (by rw [pr_zero_val hk.2]))) $$ Hpay
  imod (Rounds.cell_close ER (xRd m) (Set.mem_univ (K (c, Sum.inr (Fin.castAdd 32 (pr 0 k))))) (fun h => h) (R := 0 + 1)
    (duties_later m (sendCell c (pr 0 k)))) $$ [Hat] with Hz
  · isplitr; · iapply (recs_inv m K (c, Sum.inr (Fin.castAdd 32 (pr 0 k)))); iexact HR
    iexact Hat
  iapply Hk
  isplitr; · iexact HR
  isplitl [HO]; · iexists _; iexact HO
  isplitl [Hrest]; · iexact Hrest
  isplitr [Hout]
  · isplitl [Hz]; · iexact Hz
    iexact Hp
  iexact Hout

end Step

end Cert.KernelIdealProof

end
-- ==== Proof.KernelIdealParts.lean ====
/-
# 01_k — the parts of the kernel's exchange, each from the state before it to the state after it
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Names) (c : Dev nD)

set_option maxRecDepth 8192
set_option maxHeartbeats 1000000

theorem W_ret {α : Type} {Ψ : α → sProp 𝕄} (a : α) : Ψ a ⊢ W c (Prog.ret a) Ψ := by
  unfold W; rw [wp_ret]; iintro H; imodintro; iexact H

theorem W_bind {α β : Type} {Ψ : β → sProp 𝕄} (p : Prog (TpuEff nD τ sig (Elt F) Λ₀ .tc) α) (q : α → Prog (TpuEff nD τ sig (Elt F) Λ₀ .tc) β) :
    W c p (fun a => W c (q a) Ψ) ⊢ W c (p >>= q) Ψ := by
  unfold W; rw [wp_bind]

theorem part4 (v2 v119 : BitVec 32) {Ψ : (BitVec 32) → sProp 𝕄} :
    SigSt m K c 1
      ⊢ iprop((∀ v, SigSt m K c 7 -∗ Ψ v) -∗ W c (k0_part4 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v119) Ψ) := by
  simp only [k0_part4_eq_skeleton]; unfold k0_part4_skel
  simp only [semSignalWord, semWaitWord, Prog.lift, Prog.bind_op, Prog.bind_ret, Prog.pure_eq_ret]
  iintro H Hk
  iapply (sig_step m K (k := 1) (by decide) (n := ⟨k0_dev1 c, k0_dev1_lt c⟩) (Fin.ext (k0_dev1_eq c)) rfl) $$ H; iintro H
  iapply (sig_step m K (k := 2) (by decide) (n := ⟨k0_dev2 c, k0_dev2_lt c⟩) (Fin.ext (k0_dev2_eq c)) rfl) $$ H; iintro H
  iapply (sig_step m K (k := 3) (by decide) (n := ⟨k0_dev3 c, k0_dev3_lt c⟩) (Fin.ext (k0_dev3_eq c)) rfl) $$ H; iintro H
  iapply (sig_step m K (k := 4) (by decide) (n := ⟨k0_dev4 c, k0_dev4_lt c⟩) (Fin.ext (k0_dev4_eq c)) rfl) $$ H; iintro H
  iapply (sig_step m K (k := 5) (by decide) (n := ⟨k0_dev5 c, k0_dev5_lt c⟩) (Fin.ext (k0_dev5_eq c)) rfl) $$ H; iintro H
  iapply (sig_step m K (k := 6) (by decide) (n := ⟨k0_dev6 c, k0_dev6_lt c⟩) (Fin.ext (k0_dev6_eq c)) rfl) $$ H; iintro H
  iapply W_ret; iapply Hk
  iexact H

theorem part5 (v2 v143 : BitVec 32) {Ψ : (BitVec 32) → sProp 𝕄} :
    SigSt m K c 7
      ⊢ iprop((∀ v, SigSt m K c 13 -∗ Ψ v) -∗ W c (k0_part5 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v143) Ψ) := by
  simp only [k0_part5_eq_skeleton]; unfold k0_part5_skel
  simp only [semSignalWord, semWaitWord, Prog.lift, Prog.bind_op, Prog.bind_ret, Prog.pure_eq_ret]
  iintro H Hk
  iapply (sig_step m K (k := 7) (by decide) (n := ⟨k0_dev7 c, k0_dev7_lt c⟩) (Fin.ext (k0_dev7_eq c)) rfl) $$ H; iintro H
  iapply (sig_step m K (k := 8) (by decide) (n := ⟨k0_dev8 c, k0_dev8_lt c⟩) (Fin.ext (k0_dev8_eq c)) rfl) $$ H; iintro H
  iapply (sig_step m K (k := 9) (by decide) (n := ⟨k0_dev9 c, k0_dev9_lt c⟩) (Fin.ext (k0_dev9_eq c)) rfl) $$ H; iintro H
  iapply (sig_step m K (k := 10) (by decide) (n := ⟨k0_dev10 c, k0_dev10_lt c⟩) (Fin.ext (k0_dev10_eq c)) rfl) $$ H; iintro H
  iapply (sig_step m K (k := 11) (by decide) (n := ⟨k0_dev11 c, k0_dev11_lt c⟩) (Fin.ext (k0_dev11_eq c)) rfl) $$ H; iintro H
  iapply (sig_step m K (k := 12) (by decide) (n := ⟨k0_dev12 c, k0_dev12_lt c⟩) (Fin.ext (k0_dev12_eq c)) rfl) $$ H; iintro H
  iapply W_ret; iapply Hk
  iexact H

theorem part6 (v2 v167 : BitVec 32) {Ψ : (BitVec 32) → sProp 𝕄} :
    SigSt m K c 13
      ⊢ iprop((∀ v, SigSt m K c 19 -∗ Ψ v) -∗ W c (k0_part6 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v167) Ψ) := by
  simp only [k0_part6_eq_skeleton]; unfold k0_part6_skel
  simp only [semSignalWord, semWaitWord, Prog.lift, Prog.bind_op, Prog.bind_ret, Prog.pure_eq_ret]
  iintro H Hk
  iapply (sig_step m K (k := 13) (by decide) (n := ⟨k0_dev13 c, k0_dev13_lt c⟩) (Fin.ext (k0_dev13_eq c)) rfl) $$ H; iintro H
  iapply (sig_step m K (k := 14) (by decide) (n := ⟨k0_dev14 c, k0_dev14_lt c⟩) (Fin.ext (k0_dev14_eq c)) rfl) $$ H; iintro H
  iapply (sig_step m K (k := 15) (by decide) (n := ⟨k0_dev15 c, k0_dev15_lt c⟩) (Fin.ext (k0_dev15_eq c)) rfl) $$ H; iintro H
  iapply (sig_step m K (k := 16) (by decide) (n := ⟨k0_dev16 c, k0_dev16_lt c⟩) (Fin.ext (k0_dev16_eq c)) rfl) $$ H; iintro H
  iapply (sig_step m K (k := 17) (by decide) (n := ⟨k0_dev17 c, k0_dev17_lt c⟩) (Fin.ext (k0_dev17_eq c)) rfl) $$ H; iintro H
  iapply (sig_step m K (k := 18) (by decide) (n := ⟨k0_dev18 c, k0_dev18_lt c⟩) (Fin.ext (k0_dev18_eq c)) rfl) $$ H; iintro H
  iapply W_ret; iapply Hk
  iexact H

theorem part7 (v2 v191 : BitVec 32) {Ψ : (BitVec 32) → sProp 𝕄} :
    SigSt m K c 19
      ⊢ iprop((∀ v, SigSt m K c 25 -∗ Ψ v) -∗ W c (k0_part7 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v191) Ψ) := by
  simp only [k0_part7_eq_skeleton]; unfold k0_part7_skel
  simp only [semSignalWord, semWaitWord, Prog.lift, Prog.bind_op, Prog.bind_ret, Prog.pure_eq_ret]
  iintro H Hk
  iapply (sig_step m K (k := 19) (by decide) (n := ⟨k0_dev19 c, k0_dev19_lt c⟩) (Fin.ext (k0_dev19_eq c)) rfl) $$ H; iintro H
  iapply (sig_step m K (k := 20) (by decide) (n := ⟨k0_dev20 c, k0_dev20_lt c⟩) (Fin.ext (k0_dev20_eq c)) rfl) $$ H; iintro H
  iapply (sig_step m K (k := 21) (by decide) (n := ⟨k0_dev21 c, k0_dev21_lt c⟩) (Fin.ext (k0_dev21_eq c)) rfl) $$ H; iintro H
  iapply (sig_step m K (k := 22) (by decide) (n := ⟨k0_dev22 c, k0_dev22_lt c⟩) (Fin.ext (k0_dev22_eq c)) rfl) $$ H; iintro H
  iapply (sig_step m K (k := 23) (by decide) (n := ⟨k0_dev23 c, k0_dev23_lt c⟩) (Fin.ext (k0_dev23_eq c)) rfl) $$ H; iintro H
  iapply (sig_step m K (k := 24) (by decide) (n := ⟨k0_dev24 c, k0_dev24_lt c⟩) (Fin.ext (k0_dev24_eq c)) rfl) $$ H; iintro H
  iapply W_ret; iapply Hk
  iexact H

theorem part8 (v2 v215 : BitVec 32) {Ψ : (BitVec 32) → sProp 𝕄} :
    SigSt m K c 25
      ⊢ iprop((∀ v, SigSt m K c 31 -∗ Ψ v) -∗ W c (k0_part8 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v215) Ψ) := by
  simp only [k0_part8_eq_skeleton]; unfold k0_part8_skel
  simp only [semSignalWord, semWaitWord, Prog.lift, Prog.bind_op, Prog.bind_ret, Prog.pure_eq_ret]
  iintro H Hk
  iapply (sig_step m K (k := 25) (by decide) (n := ⟨k0_dev25 c, k0_dev25_lt c⟩) (Fin.ext (k0_dev25_eq c)) rfl) $$ H; iintro H
  iapply (sig_step m K (k := 26) (by decide) (n := ⟨k0_dev26 c, k0_dev26_lt c⟩) (Fin.ext (k0_dev26_eq c)) rfl) $$ H; iintro H
  iapply (sig_step m K (k := 27) (by decide) (n := ⟨k0_dev27 c, k0_dev27_lt c⟩) (Fin.ext (k0_dev27_eq c)) rfl) $$ H; iintro H
  iapply (sig_step m K (k := 28) (by decide) (n := ⟨k0_dev28 c, k0_dev28_lt c⟩) (Fin.ext (k0_dev28_eq c)) rfl) $$ H; iintro H
  iapply (sig_step m K (k := 29) (by decide) (n := ⟨k0_dev29 c, k0_dev29_lt c⟩) (Fin.ext (k0_dev29_eq c)) rfl) $$ H; iintro H
  iapply (sig_step m K (k := 30) (by decide) (n := ⟨k0_dev30 c, k0_dev30_lt c⟩) (Fin.ext (k0_dev30_eq c)) rfl) $$ H; iintro H
  iapply W_ret; iapply Hk
  iexact H

theorem part9 (v2 v239 : BitVec 32) {Ψ : (Σ' (v268 : BitVec 32), BitVec 32) → sProp 𝕄} :
    iprop(SigSt m K c 31 ∗ levAts L lv ∗ cred (tallyAt (barCell c) () 31) ∗ atPos ER (barCell c) 0 ∅ 0 ∗ bigSep (Finset.Ico 1 32) (sndIn m c))
      ⊢ iprop((∀ v, (SndSt m K c 3 ∗ semVal (barCell c) 0) -∗ Ψ v) -∗ W c (k0_part9 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 (SemArray.scalar (sig.barrier 0 rfl)) v239) Ψ) := by
  simp only [k0_part9_eq_skeleton]; unfold k0_part9_skel
  simp only [semSignalWord, semWaitWord, Prog.lift, Prog.bind_op, Prog.bind_ret, Prog.pure_eq_ret]
  iintro ⟨H, #Hlev, Hc, Hat, Hsnd⟩ Hk
  iapply (sig_step m K (k := 31) (by decide) (n := ⟨k0_dev31 c, k0_dev31_lt c⟩) (Fin.ext (k0_dev31_eq c)) rfl) $$ H; iintro H
  iapply (bar_step m K rfl) $$ [H Hc Hat Hsnd]
  · isplitl [H]; · iexact H
    isplitr; · iexact Hlev
    isplitl [Hc]; · iexact Hc
    isplitl [Hat]; · iexact Hat
    iexact Hsnd
  iintro ⟨H, Hz⟩
  iapply (snd_step m K (k := 1) (by decide) (n := ⟨k0_dev32 c, k0_dev32_lt c⟩) (Fin.ext (k0_dev32_eq c)) (rows_eq (pr c 1) (k0_off5_eq c 0) _) (slot_eq c (k0_off4_eq c) _)
    (send_sem (pr 0 1) rfl _) (recv_sem c (k0_off3_eq c) _)) $$ H; iintro H
  iapply (snd_step m K (k := 2) (by decide) (n := ⟨k0_dev33 c, k0_dev33_lt c⟩) (Fin.ext (k0_dev33_eq c)) (rows_eq (pr c 2) (k0_off5_eq c 1) _) (slot_eq c (k0_off4_eq c) _)
    (send_sem (pr 0 2) rfl _) (recv_sem c (k0_off3_eq c) _)) $$ H; iintro H
  iapply W_ret; iapply Hk
  isplitl [H]; · iexact H
  iexact Hz

theorem part10 (v2 v268 c32_i32_194 : BitVec 32) {Ψ : (PUnit) → sProp 𝕄} :
    SndSt m K c 3
      ⊢ iprop((∀ v, SndSt m K c 5 -∗ Ψ v) -∗ W c (k0_part10 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v268 c32_i32_194) Ψ) := by
  simp only [k0_part10_eq_skeleton]; unfold k0_part10_skel
  simp only [semSignalWord, semWaitWord, Prog.lift, Prog.bind_op, Prog.bind_ret, Prog.pure_eq_ret]
  iintro H Hk
  iapply (snd_step m K (k := 3) (by decide) (n := ⟨k0_dev34 c, k0_dev34_lt c⟩) (Fin.ext (k0_dev34_eq c)) (rows_eq (pr c 3) (k0_off5_eq c 2) _) (slot_eq c (k0_off4_eq c) _)
    (send_sem (pr 0 3) rfl _) (recv_sem c (k0_off3_eq c) _)) $$ H; iintro H
  iapply (snd_step m K (k := 4) (by decide) (n := ⟨k0_dev35 c, k0_dev35_lt c⟩) (Fin.ext (k0_dev35_eq c)) (rows_eq (pr c 4) (k0_off5_eq c 3) _) (slot_eq c (k0_off4_eq c) _)
    (send_sem (pr 0 4) rfl _) (recv_sem c (k0_off3_eq c) _)) $$ H; iintro H
  iapply W_ret; iapply Hk
  iexact H

theorem part11 (v2 : BitVec 32) {Ψ : (PUnit) → sProp 𝕄} :
    SndSt m K c 5
      ⊢ iprop((∀ v, SndSt m K c 8 -∗ Ψ v) -∗ W c (k0_part11 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part11_eq_skeleton]; unfold k0_part11_skel
  simp only [semSignalWord, semWaitWord, Prog.lift, Prog.bind_op, Prog.bind_ret, Prog.pure_eq_ret]
  iintro H Hk
  iapply (snd_step m K (k := 5) (by decide) (n := ⟨k0_dev36 c, k0_dev36_lt c⟩) (Fin.ext (k0_dev36_eq c)) (rows_eq (pr c 5) (k0_off5_eq c 4) _) (slot_eq c (k0_off4_eq c) _)
    (send_sem (pr 0 5) rfl _) (recv_sem c (k0_off3_eq c) _)) $$ H; iintro H
  iapply (snd_step m K (k := 6) (by decide) (n := ⟨k0_dev37 c, k0_dev37_lt c⟩) (Fin.ext (k0_dev37_eq c)) (rows_eq (pr c 6) (k0_off5_eq c 5) _) (slot_eq c (k0_off4_eq c) _)
    (send_sem (pr 0 6) rfl _) (recv_sem c (k0_off3_eq c) _)) $$ H; iintro H
  iapply (snd_step m K (k := 7) (by decide) (n := ⟨k0_dev38 c, k0_dev38_lt c⟩) (Fin.ext (k0_dev38_eq c)) (rows_eq (pr c 7) (k0_off5_eq c 6) _) (slot_eq c (k0_off4_eq c) _)
    (send_sem (pr 0 7) rfl _) (recv_sem c (k0_off3_eq c) _)) $$ H; iintro H
  iapply W_ret; iapply Hk
  iexact H

theorem part12 (v2 : BitVec 32) {Ψ : (BitVec 32) → sProp 𝕄} :
    SndSt m K c 8
      ⊢ iprop((∀ v, SndSt m K c 11 -∗ Ψ v) -∗ W c (k0_part12 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part12_eq_skeleton]; unfold k0_part12_skel
  simp only [semSignalWord, semWaitWord, Prog.lift, Prog.bind_op, Prog.bind_ret, Prog.pure_eq_ret]
  iintro H Hk
  iapply (snd_step m K (k := 8) (by decide) (n := ⟨k0_dev39 c, k0_dev39_lt c⟩) (Fin.ext (k0_dev39_eq c)) (rows_eq (pr c 8) (k0_off5_eq c 7) _) (slot_eq c (k0_off4_eq c) _)
    (send_sem (pr 0 8) rfl _) (recv_sem c (k0_off3_eq c) _)) $$ H; iintro H
  iapply (snd_step m K (k := 9) (by decide) (n := ⟨k0_dev40 c, k0_dev40_lt c⟩) (Fin.ext (k0_dev40_eq c)) (rows_eq (pr c 9) (k0_off5_eq c 8) _) (slot_eq c (k0_off4_eq c) _)
    (send_sem (pr 0 9) rfl _) (recv_sem c (k0_off3_eq c) _)) $$ H; iintro H
  iapply (snd_step m K (k := 10) (by decide) (n := ⟨k0_dev41 c, k0_dev41_lt c⟩) (Fin.ext (k0_dev41_eq c)) (rows_eq (pr c 10) (k0_off5_eq c 9) _) (slot_eq c (k0_off4_eq c) _)
    (send_sem (pr 0 10) rfl _) (recv_sem c (k0_off3_eq c) _)) $$ H; iintro H
  iapply W_ret; iapply Hk
  iexact H

theorem part13 (v2 v366 : BitVec 32) {Ψ : (Σ' (v399 : BitVec 32), BitVec 32) → sProp 𝕄} :
    SndSt m K c 11
      ⊢ iprop((∀ v, SndSt m K c 14 -∗ Ψ v) -∗ W c (k0_part13 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v366) Ψ) := by
  simp only [k0_part13_eq_skeleton]; unfold k0_part13_skel
  simp only [semSignalWord, semWaitWord, Prog.lift, Prog.bind_op, Prog.bind_ret, Prog.pure_eq_ret]
  iintro H Hk
  iapply (snd_step m K (k := 11) (by decide) (n := ⟨k0_dev42 c, k0_dev42_lt c⟩) (Fin.ext (k0_dev42_eq c)) (rows_eq (pr c 11) (k0_off5_eq c 10) _) (slot_eq c (k0_off4_eq c) _)
    (send_sem (pr 0 11) rfl _) (recv_sem c (k0_off3_eq c) _)) $$ H; iintro H
  iapply (snd_step m K (k := 12) (by decide) (n := ⟨k0_dev43 c, k0_dev43_lt c⟩) (Fin.ext (k0_dev43_eq c)) (rows_eq (pr c 12) (k0_off5_eq c 11) _) (slot_eq c (k0_off4_eq c) _)
    (send_sem (pr 0 12) rfl _) (recv_sem c (k0_off3_eq c) _)) $$ H; iintro H
  iapply (snd_step m K (k := 13) (by decide) (n := ⟨k0_dev44 c, k0_dev44_lt c⟩) (Fin.ext (k0_dev44_eq c)) (rows_eq (pr c 13) (k0_off5_eq c 12) _) (slot_eq c (k0_off4_eq c) _)
    (send_sem (pr 0 13) rfl _) (recv_sem c (k0_off3_eq c) _)) $$ H; iintro H
  iapply W_ret; iapply Hk
  iexact H

theorem part14 (v2 v399 c32_i32_292 : BitVec 32) {Ψ : (PUnit) → sProp 𝕄} :
    SndSt m K c 14
      ⊢ iprop((∀ v, SndSt m K c 16 -∗ Ψ v) -∗ W c (k0_part14 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v399 c32_i32_292) Ψ) := by
  simp only [k0_part14_eq_skeleton]; unfold k0_part14_skel
  simp only [semSignalWord, semWaitWord, Prog.lift, Prog.bind_op, Prog.bind_ret, Prog.pure_eq_ret]
  iintro H Hk
  iapply (snd_step m K (k := 14) (by decide) (n := ⟨k0_dev45 c, k0_dev45_lt c⟩) (Fin.ext (k0_dev45_eq c)) (rows_eq (pr c 14) (k0_off5_eq c 13) _) (slot_eq c (k0_off4_eq c) _)
    (send_sem (pr 0 14) rfl _) (recv_sem c (k0_off3_eq c) _)) $$ H; iintro H
  iapply (snd_step m K (k := 15) (by decide) (n := ⟨k0_dev46 c, k0_dev46_lt c⟩) (Fin.ext (k0_dev46_eq c)) (rows_eq (pr c 15) (k0_off5_eq c 14) _) (slot_eq c (k0_off4_eq c) _)
    (send_sem (pr 0 15) rfl _) (recv_sem c (k0_off3_eq c) _)) $$ H; iintro H
  iapply W_ret; iapply Hk
  iexact H

theorem part15 (v2 : BitVec 32) {Ψ : (PUnit) → sProp 𝕄} :
    SndSt m K c 16
      ⊢ iprop((∀ v, SndSt m K c 19 -∗ Ψ v) -∗ W c (k0_part15 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part15_eq_skeleton]; unfold k0_part15_skel
  simp only [semSignalWord, semWaitWord, Prog.lift, Prog.bind_op, Prog.bind_ret, Prog.pure_eq_ret]
  iintro H Hk
  iapply (snd_step m K (k := 16) (by decide) (n := ⟨k0_dev47 c, k0_dev47_lt c⟩) (Fin.ext (k0_dev47_eq c)) (rows_eq (pr c 16) (k0_off5_eq c 15) _) (slot_eq c (k0_off4_eq c) _)
    (send_sem (pr 0 16) rfl _) (recv_sem c (k0_off3_eq c) _)) $$ H; iintro H
  iapply (snd_step m K (k := 17) (by decide) (n := ⟨k0_dev48 c, k0_dev48_lt c⟩) (Fin.ext (k0_dev48_eq c)) (rows_eq (pr c 17) (k0_off5_eq c 16) _) (slot_eq c (k0_off4_eq c) _)
    (send_sem (pr 0 17) rfl _) (recv_sem c (k0_off3_eq c) _)) $$ H; iintro H
  iapply (snd_step m K (k := 18) (by decide) (n := ⟨k0_dev49 c, k0_dev49_lt c⟩) (Fin.ext (k0_dev49_eq c)) (rows_eq (pr c 18) (k0_off5_eq c 17) _) (slot_eq c (k0_off4_eq c) _)
    (send_sem (pr 0 18) rfl _) (recv_sem c (k0_off3_eq c) _)) $$ H; iintro H
  iapply W_ret; iapply Hk
  iexact H

theorem part16 (v2 : BitVec 32) {Ψ : (BitVec 32) → sProp 𝕄} :
    SndSt m K c 19
      ⊢ iprop((∀ v, SndSt m K c 22 -∗ Ψ v) -∗ W c (k0_part16 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part16_eq_skeleton]; unfold k0_part16_skel
  simp only [semSignalWord, semWaitWord, Prog.lift, Prog.bind_op, Prog.bind_ret, Prog.pure_eq_ret]
  iintro H Hk
  iapply (snd_step m K (k := 19) (by decide) (n := ⟨k0_dev50 c, k0_dev50_lt c⟩) (Fin.ext (k0_dev50_eq c)) (rows_eq (pr c 19) (k0_off5_eq c 18) _) (slot_eq c (k0_off4_eq c) _)
    (send_sem (pr 0 19) rfl _) (recv_sem c (k0_off3_eq c) _)) $$ H; iintro H
  iapply (snd_step m K (k := 20) (by decide) (n := ⟨k0_dev51 c, k0_dev51_lt c⟩) (Fin.ext (k0_dev51_eq c)) (rows_eq (pr c 20) (k0_off5_eq c 19) _) (slot_eq c (k0_off4_eq c) _)
    (send_sem (pr 0 20) rfl _) (recv_sem c (k0_off3_eq c) _)) $$ H; iintro H
  iapply (snd_step m K (k := 21) (by decide) (n := ⟨k0_dev52 c, k0_dev52_lt c⟩) (Fin.ext (k0_dev52_eq c)) (rows_eq (pr c 21) (k0_off5_eq c 20) _) (slot_eq c (k0_off4_eq c) _)
    (send_sem (pr 0 21) rfl _) (recv_sem c (k0_off3_eq c) _)) $$ H; iintro H
  iapply W_ret; iapply Hk
  iexact H

theorem part17 (v2 v496 : BitVec 32) {Ψ : (BitVec 32) → sProp 𝕄} :
    SndSt m K c 22
      ⊢ iprop((∀ v, SndSt m K c 25 -∗ Ψ v) -∗ W c (k0_part17 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v496) Ψ) := by
  simp only [k0_part17_eq_skeleton]; unfold k0_part17_skel
  simp only [semSignalWord, semWaitWord, Prog.lift, Prog.bind_op, Prog.bind_ret, Prog.pure_eq_ret]
  iintro H Hk
  iapply (snd_step m K (k := 22) (by decide) (n := ⟨k0_dev53 c, k0_dev53_lt c⟩) (Fin.ext (k0_dev53_eq c)) (rows_eq (pr c 22) (k0_off5_eq c 21) _) (slot_eq c (k0_off4_eq c) _)
    (send_sem (pr 0 22) rfl _) (recv_sem c (k0_off3_eq c) _)) $$ H; iintro H
  iapply (snd_step m K (k := 23) (by decide) (n := ⟨k0_dev54 c, k0_dev54_lt c⟩) (Fin.ext (k0_dev54_eq c)) (rows_eq (pr c 23) (k0_off5_eq c 22) _) (slot_eq c (k0_off4_eq c) _)
    (send_sem (pr 0 23) rfl _) (recv_sem c (k0_off3_eq c) _)) $$ H; iintro H
  iapply (snd_step m K (k := 24) (by decide) (n := ⟨k0_dev55 c, k0_dev55_lt c⟩) (Fin.ext (k0_dev55_eq c)) (rows_eq (pr c 24) (k0_off5_eq c 23) _) (slot_eq c (k0_off4_eq c) _)
    (send_sem (pr 0 24) rfl _) (recv_sem c (k0_off3_eq c) _)) $$ H; iintro H
  iapply W_ret; iapply Hk
  iexact H

theorem part18 (v2 c25_i32_390 : BitVec 32) {Ψ : (PUnit) → sProp 𝕄} :
    SndSt m K c 25
      ⊢ iprop((∀ v, SndSt m K c 27 -∗ Ψ v) -∗ W c (k0_part18 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 c25_i32_390) Ψ) := by
  simp only [k0_part18_eq_skeleton]; unfold k0_part18_skel
  simp only [semSignalWord, semWaitWord, Prog.lift, Prog.bind_op, Prog.bind_ret, Prog.pure_eq_ret]
  iintro H Hk
  iapply (snd_step m K (k := 25) (by decide) (n := ⟨k0_dev56 c, k0_dev56_lt c⟩) (Fin.ext (k0_dev56_eq c)) (rows_eq (pr c 25) (k0_off5_eq c 24) _) (slot_eq c (k0_off4_eq c) _)
    (send_sem (pr 0 25) rfl _) (recv_sem c (k0_off3_eq c) _)) $$ H; iintro H
  iapply (snd_step m K (k := 26) (by decide) (n := ⟨k0_dev57 c, k0_dev57_lt c⟩) (Fin.ext (k0_dev57_eq c)) (rows_eq (pr c 26) (k0_off5_eq c 25) _) (slot_eq c (k0_off4_eq c) _)
    (send_sem (pr 0 26) rfl _) (recv_sem c (k0_off3_eq c) _)) $$ H; iintro H
  iapply W_ret; iapply Hk
  iexact H

theorem part19 (v2 : BitVec 32) {Ψ : (PUnit) → sProp 𝕄} :
    SndSt m K c 27
      ⊢ iprop((∀ v, SndSt m K c 30 -∗ Ψ v) -∗ W c (k0_part19 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part19_eq_skeleton]; unfold k0_part19_skel
  simp only [semSignalWord, semWaitWord, Prog.lift, Prog.bind_op, Prog.bind_ret, Prog.pure_eq_ret]
  iintro H Hk
  iapply (snd_step m K (k := 27) (by decide) (n := ⟨k0_dev58 c, k0_dev58_lt c⟩) (Fin.ext (k0_dev58_eq c)) (rows_eq (pr c 27) (k0_off5_eq c 26) _) (slot_eq c (k0_off4_eq c) _)
    (send_sem (pr 0 27) rfl _) (recv_sem c (k0_off3_eq c) _)) $$ H; iintro H
  iapply (snd_step m K (k := 28) (by decide) (n := ⟨k0_dev59 c, k0_dev59_lt c⟩) (Fin.ext (k0_dev59_eq c)) (rows_eq (pr c 28) (k0_off5_eq c 27) _) (slot_eq c (k0_off4_eq c) _)
    (send_sem (pr 0 28) rfl _) (recv_sem c (k0_off3_eq c) _)) $$ H; iintro H
  iapply (snd_step m K (k := 29) (by decide) (n := ⟨k0_dev60 c, k0_dev60_lt c⟩) (Fin.ext (k0_dev60_eq c)) (rows_eq (pr c 29) (k0_off5_eq c 28) _) (slot_eq c (k0_off4_eq c) _)
    (send_sem (pr 0 29) rfl _) (recv_sem c (k0_off3_eq c) _)) $$ H; iintro H
  iapply W_ret; iapply Hk
  iexact H

theorem part20 (v2 : BitVec 32) {Ψ : (Σ' (v626 : BitVec 32), BitVec 32) → sProp 𝕄} :
    iprop(SndSt m K c 30 ∗ bigSep (Finset.Ico 1 32) (rcvIn c))
      ⊢ iprop((∀ v, (RcvSt m K c 2 ∗ bigSep (Finset.Ico 1 32) (sndCr (F := F) c)) -∗ Ψ v) -∗ W c (k0_part20 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part20_eq_skeleton]; unfold k0_part20_skel
  simp only [semSignalWord, semWaitWord, Prog.lift, Prog.bind_op, Prog.bind_ret, Prog.pure_eq_ret]
  iintro ⟨H, Hin⟩ Hk
  iapply (snd_step m K (k := 30) (by decide) (n := ⟨k0_dev61 c, k0_dev61_lt c⟩) (Fin.ext (k0_dev61_eq c)) (rows_eq (pr c 30) (k0_off5_eq c 29) _) (slot_eq c (k0_off4_eq c) _)
    (send_sem (pr 0 30) rfl _) (recv_sem c (k0_off3_eq c) _)) $$ H; iintro H
  iapply (snd_step m K (k := 31) (by decide) (n := ⟨k0_dev62 c, k0_dev62_lt c⟩) (Fin.ext (k0_dev62_eq c)) (rows_eq (pr c 31) (k0_off5_eq c 30) _) (slot_eq c (k0_off4_eq c) _)
    (send_sem (pr 0 31) rfl _) (recv_sem c (k0_off3_eq c) _)) $$ H; iintro H
  ihave Hs := (snd_end m K) $$ [H Hin]
  · isplitl [H]; · iexact H
    iexact Hin
  icases Hs with ⟨H, Hz⟩
  iapply (rcv_step m K (k := 1) (by decide) (slot_eq (pr c 1) (k0_off7_eq c 0) _) (recv_sem (pr c 1) (k0_off6_eq c 0) _)) $$ H; iintro H
  iapply W_ret; iapply Hk
  isplitl [H]; · iexact H
  iexact Hz

theorem part21 (v2 v626 c0_i32_466 : BitVec 32) {Ψ : (PUnit) → sProp 𝕄} :
    RcvSt m K c 2
      ⊢ iprop((∀ v, RcvSt m K c 5 -∗ Ψ v) -∗ W c (k0_part21 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v626 c0_i32_466) Ψ) := by
  simp only [k0_part21_eq_skeleton]; unfold k0_part21_skel
  simp only [semSignalWord, semWaitWord, Prog.lift, Prog.bind_op, Prog.bind_ret, Prog.pure_eq_ret]
  iintro H Hk
  iapply (rcv_step m K (k := 2) (by decide) (slot_eq (pr c 2) (k0_off7_eq c 1) _) (recv_sem (pr c 2) (k0_off6_eq c 1) _)) $$ H; iintro H
  iapply (rcv_step m K (k := 3) (by decide) (slot_eq (pr c 3) (k0_off7_eq c 2) _) (recv_sem (pr c 3) (k0_off6_eq c 2) _)) $$ H; iintro H
  iapply (rcv_step m K (k := 4) (by decide) (slot_eq (pr c 4) (k0_off7_eq c 3) _) (recv_sem (pr c 4) (k0_off6_eq c 3) _)) $$ H; iintro H
  iapply W_ret; iapply Hk
  iexact H

theorem part22 (v2 : BitVec 32) {Ψ : (PUnit) → sProp 𝕄} :
    RcvSt m K c 5
      ⊢ iprop((∀ v, RcvSt m K c 8 -∗ Ψ v) -∗ W c (k0_part22 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part22_eq_skeleton]; unfold k0_part22_skel
  simp only [semSignalWord, semWaitWord, Prog.lift, Prog.bind_op, Prog.bind_ret, Prog.pure_eq_ret]
  iintro H Hk
  iapply (rcv_step m K (k := 5) (by decide) (slot_eq (pr c 5) (k0_off7_eq c 4) _) (recv_sem (pr c 5) (k0_off6_eq c 4) _)) $$ H; iintro H
  iapply (rcv_step m K (k := 6) (by decide) (slot_eq (pr c 6) (k0_off7_eq c 5) _) (recv_sem (pr c 6) (k0_off6_eq c 5) _)) $$ H; iintro H
  iapply (rcv_step m K (k := 7) (by decide) (slot_eq (pr c 7) (k0_off7_eq c 6) _) (recv_sem (pr c 7) (k0_off6_eq c 6) _)) $$ H; iintro H
  iapply W_ret; iapply Hk
  iexact H

theorem part23 (v2 : BitVec 32) {Ψ : (PUnit) → sProp 𝕄} :
    RcvSt m K c 8
      ⊢ iprop((∀ v, RcvSt m K c 11 -∗ Ψ v) -∗ W c (k0_part23 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part23_eq_skeleton]; unfold k0_part23_skel
  simp only [semSignalWord, semWaitWord, Prog.lift, Prog.bind_op, Prog.bind_ret, Prog.pure_eq_ret]
  iintro H Hk
  iapply (rcv_step m K (k := 8) (by decide) (slot_eq (pr c 8) (k0_off7_eq c 7) _) (recv_sem (pr c 8) (k0_off6_eq c 7) _)) $$ H; iintro H
  iapply (rcv_step m K (k := 9) (by decide) (slot_eq (pr c 9) (k0_off7_eq c 8) _) (recv_sem (pr c 9) (k0_off6_eq c 8) _)) $$ H; iintro H
  iapply (rcv_step m K (k := 10) (by decide) (slot_eq (pr c 10) (k0_off7_eq c 9) _) (recv_sem (pr c 10) (k0_off6_eq c 9) _)) $$ H; iintro H
  iapply W_ret; iapply Hk
  iexact H

theorem part24 (v2 : BitVec 32) {Ψ : (BitVec 32) → sProp 𝕄} :
    RcvSt m K c 11
      ⊢ iprop((∀ v, RcvSt m K c 15 -∗ Ψ v) -∗ W c (k0_part24 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part24_eq_skeleton]; unfold k0_part24_skel
  simp only [semSignalWord, semWaitWord, Prog.lift, Prog.bind_op, Prog.bind_ret, Prog.pure_eq_ret]
  iintro H Hk
  iapply (rcv_step m K (k := 11) (by decide) (slot_eq (pr c 11) (k0_off7_eq c 10) _) (recv_sem (pr c 11) (k0_off6_eq c 10) _)) $$ H; iintro H
  iapply (rcv_step m K (k := 12) (by decide) (slot_eq (pr c 12) (k0_off7_eq c 11) _) (recv_sem (pr c 12) (k0_off6_eq c 11) _)) $$ H; iintro H
  iapply (rcv_step m K (k := 13) (by decide) (slot_eq (pr c 13) (k0_off7_eq c 12) _) (recv_sem (pr c 13) (k0_off6_eq c 12) _)) $$ H; iintro H
  iapply (rcv_step m K (k := 14) (by decide) (slot_eq (pr c 14) (k0_off7_eq c 13) _) (recv_sem (pr c 14) (k0_off6_eq c 13) _)) $$ H; iintro H
  iapply W_ret; iapply Hk
  iexact H

theorem part25 (v2 c15_i32_579 : BitVec 32) {Ψ : (BitVec 32) → sProp 𝕄} :
    RcvSt m K c 15
      ⊢ iprop((∀ v, RcvSt m K c 18 -∗ Ψ v) -∗ W c (k0_part25 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 c15_i32_579) Ψ) := by
  simp only [k0_part25_eq_skeleton]; unfold k0_part25_skel
  simp only [semSignalWord, semWaitWord, Prog.lift, Prog.bind_op, Prog.bind_ret, Prog.pure_eq_ret]
  iintro H Hk
  iapply (rcv_step m K (k := 15) (by decide) (slot_eq (pr c 15) (k0_off7_eq c 14) _) (recv_sem (pr c 15) (k0_off6_eq c 14) _)) $$ H; iintro H
  iapply (rcv_step m K (k := 16) (by decide) (slot_eq (pr c 16) (k0_off7_eq c 15) _) (recv_sem (pr c 16) (k0_off6_eq c 15) _)) $$ H; iintro H
  iapply (rcv_step m K (k := 17) (by decide) (slot_eq (pr c 17) (k0_off7_eq c 16) _) (recv_sem (pr c 17) (k0_off6_eq c 16) _)) $$ H; iintro H
  iapply W_ret; iapply Hk
  iexact H

theorem part26 (v2 v769 : BitVec 32) {Ψ : (BitVec 32) → sProp 𝕄} :
    RcvSt m K c 18
      ⊢ iprop((∀ v, RcvSt m K c 21 -∗ Ψ v) -∗ W c (k0_part26 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v769) Ψ) := by
  simp only [k0_part26_eq_skeleton]; unfold k0_part26_skel
  simp only [semSignalWord, semWaitWord, Prog.lift, Prog.bind_op, Prog.bind_ret, Prog.pure_eq_ret]
  iintro H Hk
  iapply (rcv_step m K (k := 18) (by decide) (slot_eq (pr c 18) (k0_off7_eq c 17) _) (recv_sem (pr c 18) (k0_off6_eq c 17) _)) $$ H; iintro H
  iapply (rcv_step m K (k := 19) (by decide) (slot_eq (pr c 19) (k0_off7_eq c 18) _) (recv_sem (pr c 19) (k0_off6_eq c 18) _)) $$ H; iintro H
  iapply (rcv_step m K (k := 20) (by decide) (slot_eq (pr c 20) (k0_off7_eq c 19) _) (recv_sem (pr c 20) (k0_off6_eq c 19) _)) $$ H; iintro H
  iapply W_ret; iapply Hk
  iexact H

theorem part27 (v2 v797 : BitVec 32) {Ψ : (PUnit) → sProp 𝕄} :
    RcvSt m K c 21
      ⊢ iprop((∀ v, RcvSt m K c 24 -∗ Ψ v) -∗ W c (k0_part27 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v797) Ψ) := by
  simp only [k0_part27_eq_skeleton]; unfold k0_part27_skel
  simp only [semSignalWord, semWaitWord, Prog.lift, Prog.bind_op, Prog.bind_ret, Prog.pure_eq_ret]
  iintro H Hk
  iapply (rcv_step m K (k := 21) (by decide) (slot_eq (pr c 21) (k0_off7_eq c 20) _) (recv_sem (pr c 21) (k0_off6_eq c 20) _)) $$ H; iintro H
  iapply (rcv_step m K (k := 22) (by decide) (slot_eq (pr c 22) (k0_off7_eq c 21) _) (recv_sem (pr c 22) (k0_off6_eq c 21) _)) $$ H; iintro H
  iapply (rcv_step m K (k := 23) (by decide) (slot_eq (pr c 23) (k0_off7_eq c 22) _) (recv_sem (pr c 23) (k0_off6_eq c 22) _)) $$ H; iintro H
  iapply W_ret; iapply Hk
  iexact H

theorem part28 (v2 : BitVec 32) {Ψ : (PUnit) → sProp 𝕄} :
    RcvSt m K c 24
      ⊢ iprop((∀ v, RcvSt m K c 27 -∗ Ψ v) -∗ W c (k0_part28 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part28_eq_skeleton]; unfold k0_part28_skel
  simp only [semSignalWord, semWaitWord, Prog.lift, Prog.bind_op, Prog.bind_ret, Prog.pure_eq_ret]
  iintro H Hk
  iapply (rcv_step m K (k := 24) (by decide) (slot_eq (pr c 24) (k0_off7_eq c 23) _) (recv_sem (pr c 24) (k0_off6_eq c 23) _)) $$ H; iintro H
  iapply (rcv_step m K (k := 25) (by decide) (slot_eq (pr c 25) (k0_off7_eq c 24) _) (recv_sem (pr c 25) (k0_off6_eq c 24) _)) $$ H; iintro H
  iapply (rcv_step m K (k := 26) (by decide) (slot_eq (pr c 26) (k0_off7_eq c 25) _) (recv_sem (pr c 26) (k0_off6_eq c 25) _)) $$ H; iintro H
  iapply W_ret; iapply Hk
  iexact H

theorem part29 (v2 : BitVec 32) {Ψ : (PUnit) → sProp 𝕄} :
    RcvSt m K c 27
      ⊢ iprop((∀ v, RcvSt m K c 30 -∗ Ψ v) -∗ W c (k0_part29 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part29_eq_skeleton]; unfold k0_part29_skel
  simp only [semSignalWord, semWaitWord, Prog.lift, Prog.bind_op, Prog.bind_ret, Prog.pure_eq_ret]
  iintro H Hk
  iapply (rcv_step m K (k := 27) (by decide) (slot_eq (pr c 27) (k0_off7_eq c 26) _) (recv_sem (pr c 27) (k0_off6_eq c 26) _)) $$ H; iintro H
  iapply (rcv_step m K (k := 28) (by decide) (slot_eq (pr c 28) (k0_off7_eq c 27) _) (recv_sem (pr c 28) (k0_off6_eq c 27) _)) $$ H; iintro H
  iapply (rcv_step m K (k := 29) (by decide) (slot_eq (pr c 29) (k0_off7_eq c 28) _) (recv_sem (pr c 29) (k0_off6_eq c 28) _)) $$ H; iintro H
  iapply W_ret; iapply Hk
  iexact H

theorem part30 (v2 : BitVec 32) {Ψ : (PUnit) → sProp 𝕄} :
    iprop(RcvSt m K c 30 ∗ bigSep (Finset.Ico 1 32) (swtIn c))
      ⊢ iprop((∀ v, (SwtSt m K c 4 ∗ bigSep (Finset.Ico 1 32) (rcvOut m c)) -∗ Ψ v) -∗ W c (k0_part30 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2) Ψ) := by
  simp only [k0_part30_eq_skeleton]; unfold k0_part30_skel
  simp only [semSignalWord, semWaitWord, Prog.lift, Prog.bind_op, Prog.bind_ret, Prog.pure_eq_ret]
  iintro ⟨H, Hin⟩ Hk
  iapply (rcv_step m K (k := 30) (by decide) (slot_eq (pr c 30) (k0_off7_eq c 29) _) (recv_sem (pr c 30) (k0_off6_eq c 29) _)) $$ H; iintro H
  iapply (rcv_step m K (k := 31) (by decide) (slot_eq (pr c 31) (k0_off7_eq c 30) _) (recv_sem (pr c 31) (k0_off6_eq c 30) _)) $$ H; iintro H
  ihave Hs := (rcv_end m K) $$ [H Hin]
  · isplitl [H]; · iexact H
    iexact Hin
  icases Hs with ⟨H, Hz⟩
  iapply (swt_step m K (k := 1) (by decide) (rows_eq (pr c 1) (k0_off5_eq c 0) _) (send_sem (pr 0 1) rfl _)) $$ H; iintro H
  iapply (swt_step m K (k := 2) (by decide) (rows_eq (pr c 2) (k0_off5_eq c 1) _) (send_sem (pr 0 2) rfl _)) $$ H; iintro H
  iapply (swt_step m K (k := 3) (by decide) (rows_eq (pr c 3) (k0_off5_eq c 2) _) (send_sem (pr 0 3) rfl _)) $$ H; iintro H
  iapply W_ret; iapply Hk
  isplitl [H]; · iexact H
  iexact Hz

theorem part31 {Ψ : (PUnit) → sProp 𝕄} :
    SwtSt m K c 4
      ⊢ iprop((∀ v, SwtSt m K c 9 -∗ Ψ v) -∗ W c (k0_part31 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c) Ψ) := by
  simp only [k0_part31_eq_skeleton]; unfold k0_part31_skel
  simp only [semSignalWord, semWaitWord, Prog.lift, Prog.bind_op, Prog.bind_ret, Prog.pure_eq_ret]
  iintro H Hk
  iapply (swt_step m K (k := 4) (by decide) (rows_eq (pr c 4) (k0_off5_eq c 3) _) (send_sem (pr 0 4) rfl _)) $$ H; iintro H
  iapply (swt_step m K (k := 5) (by decide) (rows_eq (pr c 5) (k0_off5_eq c 4) _) (send_sem (pr 0 5) rfl _)) $$ H; iintro H
  iapply (swt_step m K (k := 6) (by decide) (rows_eq (pr c 6) (k0_off5_eq c 5) _) (send_sem (pr 0 6) rfl _)) $$ H; iintro H
  iapply (swt_step m K (k := 7) (by decide) (rows_eq (pr c 7) (k0_off5_eq c 6) _) (send_sem (pr 0 7) rfl _)) $$ H; iintro H
  iapply (swt_step m K (k := 8) (by decide) (rows_eq (pr c 8) (k0_off5_eq c 7) _) (send_sem (pr 0 8) rfl _)) $$ H; iintro H
  iapply W_ret; iapply Hk
  iexact H

theorem part32 {Ψ : (PUnit) → sProp 𝕄} :
    SwtSt m K c 9
      ⊢ iprop((∀ v, SwtSt m K c 15 -∗ Ψ v) -∗ W c (k0_part32 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c) Ψ) := by
  simp only [k0_part32_eq_skeleton]; unfold k0_part32_skel
  simp only [semSignalWord, semWaitWord, Prog.lift, Prog.bind_op, Prog.bind_ret, Prog.pure_eq_ret]
  iintro H Hk
  iapply (swt_step m K (k := 9) (by decide) (rows_eq (pr c 9) (k0_off5_eq c 8) _) (send_sem (pr 0 9) rfl _)) $$ H; iintro H
  iapply (swt_step m K (k := 10) (by decide) (rows_eq (pr c 10) (k0_off5_eq c 9) _) (send_sem (pr 0 10) rfl _)) $$ H; iintro H
  iapply (swt_step m K (k := 11) (by decide) (rows_eq (pr c 11) (k0_off5_eq c 10) _) (send_sem (pr 0 11) rfl _)) $$ H; iintro H
  iapply (swt_step m K (k := 12) (by decide) (rows_eq (pr c 12) (k0_off5_eq c 11) _) (send_sem (pr 0 12) rfl _)) $$ H; iintro H
  iapply (swt_step m K (k := 13) (by decide) (rows_eq (pr c 13) (k0_off5_eq c 12) _) (send_sem (pr 0 13) rfl _)) $$ H; iintro H
  iapply (swt_step m K (k := 14) (by decide) (rows_eq (pr c 14) (k0_off5_eq c 13) _) (send_sem (pr 0 14) rfl _)) $$ H; iintro H
  iapply W_ret; iapply Hk
  iexact H

theorem part33 {Ψ : (PUnit) → sProp 𝕄} :
    SwtSt m K c 15
      ⊢ iprop((∀ v, SwtSt m K c 20 -∗ Ψ v) -∗ W c (k0_part33 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c) Ψ) := by
  simp only [k0_part33_eq_skeleton]; unfold k0_part33_skel
  simp only [semSignalWord, semWaitWord, Prog.lift, Prog.bind_op, Prog.bind_ret, Prog.pure_eq_ret]
  iintro H Hk
  iapply (swt_step m K (k := 15) (by decide) (rows_eq (pr c 15) (k0_off5_eq c 14) _) (send_sem (pr 0 15) rfl _)) $$ H; iintro H
  iapply (swt_step m K (k := 16) (by decide) (rows_eq (pr c 16) (k0_off5_eq c 15) _) (send_sem (pr 0 16) rfl _)) $$ H; iintro H
  iapply (swt_step m K (k := 17) (by decide) (rows_eq (pr c 17) (k0_off5_eq c 16) _) (send_sem (pr 0 17) rfl _)) $$ H; iintro H
  iapply (swt_step m K (k := 18) (by decide) (rows_eq (pr c 18) (k0_off5_eq c 17) _) (send_sem (pr 0 18) rfl _)) $$ H; iintro H
  iapply (swt_step m K (k := 19) (by decide) (rows_eq (pr c 19) (k0_off5_eq c 18) _) (send_sem (pr 0 19) rfl _)) $$ H; iintro H
  iapply W_ret; iapply Hk
  iexact H

theorem part34 {Ψ : (PUnit) → sProp 𝕄} :
    SwtSt m K c 20
      ⊢ iprop((∀ v, SwtSt m K c 26 -∗ Ψ v) -∗ W c (k0_part34 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c) Ψ) := by
  simp only [k0_part34_eq_skeleton]; unfold k0_part34_skel
  simp only [semSignalWord, semWaitWord, Prog.lift, Prog.bind_op, Prog.bind_ret, Prog.pure_eq_ret]
  iintro H Hk
  iapply (swt_step m K (k := 20) (by decide) (rows_eq (pr c 20) (k0_off5_eq c 19) _) (send_sem (pr 0 20) rfl _)) $$ H; iintro H
  iapply (swt_step m K (k := 21) (by decide) (rows_eq (pr c 21) (k0_off5_eq c 20) _) (send_sem (pr 0 21) rfl _)) $$ H; iintro H
  iapply (swt_step m K (k := 22) (by decide) (rows_eq (pr c 22) (k0_off5_eq c 21) _) (send_sem (pr 0 22) rfl _)) $$ H; iintro H
  iapply (swt_step m K (k := 23) (by decide) (rows_eq (pr c 23) (k0_off5_eq c 22) _) (send_sem (pr 0 23) rfl _)) $$ H; iintro H
  iapply (swt_step m K (k := 24) (by decide) (rows_eq (pr c 24) (k0_off5_eq c 23) _) (send_sem (pr 0 24) rfl _)) $$ H; iintro H
  iapply (swt_step m K (k := 25) (by decide) (rows_eq (pr c 25) (k0_off5_eq c 24) _) (send_sem (pr 0 25) rfl _)) $$ H; iintro H
  iapply W_ret; iapply Hk
  iexact H

theorem part35 {Ψ : (PUnit) → sProp 𝕄} :
    SwtSt m K c 26
      ⊢ iprop((∀ v, SwtSt m K c 31 -∗ Ψ v) -∗ W c (k0_part35 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c) Ψ) := by
  simp only [k0_part35_eq_skeleton]; unfold k0_part35_skel
  simp only [semSignalWord, semWaitWord, Prog.lift, Prog.bind_op, Prog.bind_ret, Prog.pure_eq_ret]
  iintro H Hk
  iapply (swt_step m K (k := 26) (by decide) (rows_eq (pr c 26) (k0_off5_eq c 25) _) (send_sem (pr 0 26) rfl _)) $$ H; iintro H
  iapply (swt_step m K (k := 27) (by decide) (rows_eq (pr c 27) (k0_off5_eq c 26) _) (send_sem (pr 0 27) rfl _)) $$ H; iintro H
  iapply (swt_step m K (k := 28) (by decide) (rows_eq (pr c 28) (k0_off5_eq c 27) _) (send_sem (pr 0 28) rfl _)) $$ H; iintro H
  iapply (swt_step m K (k := 29) (by decide) (rows_eq (pr c 29) (k0_off5_eq c 28) _) (send_sem (pr 0 29) rfl _)) $$ H; iintro H
  iapply (swt_step m K (k := 30) (by decide) (rows_eq (pr c 30) (k0_off5_eq c 29) _) (send_sem (pr 0 30) rfl _)) $$ H; iintro H
  iapply W_ret; iapply Hk
  iexact H

end Cert.KernelIdealProof

end
-- ==== Proof.KernelIdealBody.lean ====
/-
# 01_k — the body of the kernel, run once at a symbolic device
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Names) (c : Dev nD)

set_option maxRecDepth 8192

/-! ## Whole buffers and their slots or rows -/

theorem mem_slot (s : Fin 32) (i : S32x32x512.Idx) : i ∈ (slotM s).view.set ↔ i 0 = s := by
  constructor
  · intro h
    obtain ⟨j, -, rfl⟩ := Finset.mem_map.mp h
    rw [show (slotM s).view.emb j = _ from slot_emb s j]
  · rintro rfl
    refine Finset.mem_map.mpr ⟨ValueIdx.ix2 (n0 := 32) (n1 := 512) (i 1) (i 2), Finset.mem_univ _, (slot_emb _ _).trans ?_⟩
    funext a; fin_cases a <;> rfl

theorem mem_rows (d : Fin 32) (i : S1024x512.Idx) : i ∈ (rowsM d).view.set ↔ (i 0).val / 32 = d.val := by
  have hd := d.isLt
  constructor
  · intro h
    obtain ⟨j, -, rfl⟩ := Finset.mem_map.mp h
    rw [show (rowsM d).view.emb j = _ from rows_emb d j]
    have hj : (j 0).val < 32 := (j 0).isLt
    show (32 * d.val + (j 0).val) / 32 = d.val
    omega
  · intro h
    have hi : (i 0).val < 1024 := (i 0).isLt
    refine Finset.mem_map.mpr ⟨ValueIdx.ix2 (n0 := 32) (n1 := 512) ⟨(i 0).val % 32, Nat.mod_lt _ (by decide)⟩ (i 1), Finset.mem_univ _, (rows_emb _ _).trans ?_⟩
    funext a
    refine Fin.ext ?_
    fin_cases a
    · show 32 * d.val + (i 0).val % 32 = (i 0).val
      omega
    · rfl

theorem comm_slots (f : Buf (Elt F) ((c : Thread nD τ).loc cc0_scratch1)) :
    ((((c : Thread nD τ).loc cc0_scratch1) ↦{fullShare} f) : sProp 𝕄) = bigSep Finset.univ fun s : Fin 32 => slotPts c s f := by
  unfold slotPts
  rw [← pointsTo_biUnion (ℓ := (c : Thread nD τ).loc cc0_scratch1) Finset.univ (fun s : Fin 32 => (slotM s).view.set)]
  · rw [show Finset.univ.biUnion (fun s : Fin 32 => (slotM s).view.set) = Finset.univ from
      Finset.eq_univ_iff_forall.mpr fun i => Finset.mem_biUnion.mpr ⟨i 0, Finset.mem_univ _, (mem_slot _ i).mpr rfl⟩]
  · intro s _ t _ hst
    exact Finset.disjoint_left.mpr fun i hi hj => hst (((mem_slot s i).mp hi).symm.trans ((mem_slot t i).mp hj))

theorem part_rows (f : Buf (Elt F) ((c : Thread nD τ).loc cc0_scratch0)) :
    ((((c : Thread nD τ).loc cc0_scratch0) ↦{fullShare} f) : sProp 𝕄) = bigSep Finset.univ fun d : Fin 32 => rowPts c d f := by
  unfold rowPts
  rw [← pointsTo_biUnion (ℓ := (c : Thread nD τ).loc cc0_scratch0) Finset.univ (fun d : Fin 32 => (rowsM d).view.set)]
  · rw [show Finset.univ.biUnion (fun d : Fin 32 => (rowsM d).view.set) = Finset.univ from
      Finset.eq_univ_iff_forall.mpr fun i => Finset.mem_biUnion.mpr
        ⟨⟨(i 0).val / 32, by have h : (i 0).val < 1024 := (i 0).isLt; omega⟩, Finset.mem_univ _, (mem_rows _ i).mpr rfl⟩]
  · intro s _ t _ hst
    exact Finset.disjoint_left.mpr fun i hi hj => hst (Fin.ext (((mem_rows s i).mp hi).symm.trans ((mem_rows t i).mp hj)))

/-- The device's own rows, stored into its own slot. -/
theorem own_slot (f0 : Buf (Elt F) ((c : Thread nD τ).loc cc0_scratch1)) {off2 : Fin 3 → ℕ} (h2 : off2 = ![c.val, 0, 0]) (inb2)
    {off1 : Fin 2 → ℕ} (h1 : off1 = ![32 * c.val, 0]) (inb1) :
    (slotPts c c ((cM.access (Rect.unit (s := S32x32x512) off2 S1x32x512.size inb2) : View sig .tc _ _ _).write (Elt F) f0
      (k0_pay17 (pM.view.readAt (Elt F) (Rect.unit (s := S1024x512) off1 S32x512.size inb1).toLoadRect (partV m c))) Finset.univ) : sProp 𝕄)
      = slotPts c c (commV m c) := by
  subst h1 h2
  unfold slotPts
  refine pointsTo_congr fun i hi => ?_
  obtain ⟨j, -, rfl⟩ := Finset.mem_map.mp hi
  have he : (slotM c).view.emb j = (cM.access (Rect.unit (s := S32x32x512) ![c.val, 0, 0] S1x32x512.size inb2) : View sig .tc _ _ _).emb
      (Shape.reshapeEquiv squeezes_S1x32x512_S32x512.numel_eq j) := rfl
  rw [he, View.write_emb_of_mem _ _ (Finset.mem_univ _), ← he]
  show k0_pay17 (pM.view.readAt (Elt F) (Rect.unit (s := S1024x512) ![32 * c.val, 0] S32x512.size inb1).toLoadRect (partV m c))
      (Shape.reshapeEquiv squeezes_S1x32x512_S32x512.numel_eq j) = commV m c ((slotM c).view.emb j)
  rw [slot_emb]
  unfold k0_pay17
  rw [shapeCast_self]
  show (pM.view.readAt (Elt F) (Rect.unit (s := S1024x512) ![32 * c.val, 0] S32x512.size inb1).toLoadRect (partV m c))
      (Shape.reshapeEquiv shapeCasts_S32x512_S1x32x512 (Shape.reshapeEquiv squeezes_S1x32x512_S32x512.numel_eq j)) = _
  rw [show Shape.reshapeEquiv shapeCasts_S32x512_S1x32x512 (Shape.reshapeEquiv squeezes_S1x32x512_S32x512.numel_eq j) = j from
    Shape.reshapeEquiv_eq_of_rowMajor _ (Shape.rowMajor_reshapeEquiv squeezes_S1x32x512_S32x512.numel_eq j).symm]
  show partV m c ((rowsM c).view.emb j) = _
  rw [rows_emb]
  rfl

/-- The exchange buffer, split: the own slot filled, the others for the peers. -/
theorem comm_split (f : Buf (Elt F) ((c : Thread nD τ).loc cc0_scratch1)) (h : (slotPts c c f : sProp 𝕄) = slotPts c c (commV m c)) :
    ((((c : Thread nD τ).loc cc0_scratch1) ↦{fullShare} f) : sProp 𝕄)
      ⊢ iprop(slotPts c c (commV m c) ∗ bigSep (Finset.Ico 1 32) fun j => iprop(∃ f, slotPts c (pr c j) f)) := by
  rw [comm_slots, bigSep_devs c, h]
  refine sep_mono_right (bigSep_mono fun j _ => ?_)
  show (slotPts c (pr c j) f : sProp 𝕄) ⊢ iprop(∃ f, slotPts c (pr c j) f)
  iintro H; iexists f; iexact H

/-! ## The first three parts: the partial result, and the own rows -/

abbrev stPts (b : Ref sig .tc) (X : Buf (Elt F) ((c : Thread nD τ).loc b)) : sProp 𝕄 := ((c : Thread nD τ).loc b) ↦{fullShare} X

theorem hz2 : (![0, 0] : Fin 2 → Nat) = fun _ => 0 := funext fun a => by fin_cases a <;> rfl
theorem hz3 : (![0, 0, 0] : Fin 3 → Nat) = fun _ => 0 := funext fun a => by fin_cases a <;> rfl

theorem part1 (X : (cc0_stg0_0 : Ref sig .tc).ty.Contents (Elt F)) (R : (cc0_stg1_0 : Ref sig .tc).ty.Contents (Elt F)) (I : (cc0_stg2_0 : Ref sig .tc).ty.Contents (Elt F))
    {Ψ : (Σ' (d0 : Dev nD) (v2 : BitVec 32) (v4 : FVec F S1024x256 .bf16) (v18 : IVec S1024x1 32) (v20 : IVec S1024x1 32) (v35 : FVec F S1024x1 .f32) (v36 : FVec F S1024x1 .f32) (v37 : FVec F S1024x512 .f32) (v38 : BitVec 32), BitVec 32) → sProp 𝕄} :
    iprop(stPts c cc0_stg0_0 X ∗ stPts c cc0_stg1_0 R ∗ stPts c cc0_stg2_0 I)
      ⊢ iprop(((stPts c cc0_stg0_0 X ∗ stPts c cc0_stg1_0 R ∗ stPts c cc0_stg2_0 I)
          -∗ Ψ ⟨c, devW c, k0_pay2 X, k0_pay4 (ix0 I), k0_pay5 (ix1 I), k0_pay9 X R (ix0 I) (ix1 I), k0_pay10 X R (ix0 I) (ix1 I), k0_pay11 (F := F), Scalar.muli (devW c) 4#32, 0#32⟩)
        -∗ W c (k0_part1 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3) Ψ) := by
  simp only [k0_part1_eq_skeleton]; unfold k0_part1_skel
  simp only [Prog.lift, Prog.bind_op, Prog.bind_ret, Prog.pure_eq_ret]
  iintro ⟨HX, HR, HI⟩ Hk
  unfold W ix0 ix1 devW
  rw [wp_deviceId, show ((c : Thread nD τ)).1 = c from rfl]
  iapply (wp_load 𝒱₀ (c : Thread nD τ) none Set.univ (m := xM) (Finset.subset_univ _)) $$ HX; iintro HX
  rw [show xM.view.readAt (Elt F) (Rect.unit (s := S1024x256) ![0, 0] S1024x256.size inb_S1024x256_S1024x256_0_0).toLoadRect X = X from Memref.readAt_unit_zero (Elt F) cc0_stg0_0 hz2 _ X]
  iapply (wp_load 𝒱₀ (c : Thread nD τ) none Set.univ (m := rwM) (Finset.subset_univ _)) $$ HR; iintro HR
  rw [show rwM.view.readAt (Elt F) (Rect.unit (s := S256x128) ![0, 0] S256x128.size inb_S256x128_S256x128_0_0).toLoadRect R = R from Memref.readAt_unit_zero (Elt F) cc0_stg1_0 hz2 _ R]
  iapply (wp_load 𝒱₀ (c : Thread nD τ) none Set.univ (m := ixM) (Finset.subset_univ _)) $$ HI; iintro HI
  iapply (wp_load 𝒱₀ (c : Thread nD τ) none Set.univ (m := ixM) (Finset.subset_univ _)) $$ HI; iintro HI
  rw [wp_ret]; imodintro
  iapply Hk
  isplitl [HX]; · iexact HX
  isplitl [HR]; · iexact HR
  iexact HI

theorem part2 (E : (cc0_stg3_0 : Ref sig .tc).ty.Contents (Elt F)) (v2 : BitVec 32) (v4 : FVec F S1024x256 .bf16) (v18 : IVec S1024x1 32) (v20 : IVec S1024x1 32) (v35 : FVec F S1024x1 .f32) (v36 : FVec F S1024x1 .f32) (v37 : FVec F S1024x512 .f32) (v38 : BitVec 32) (c0_i32 : BitVec 32)
    {Ψ : (Σ' (v71 : FVec F S1024x512 .f32) (v77 : FVec F S1024x1 .f32) (v79 : IVec S1024x1 1), FVec F S1024x1 .f32) → sProp 𝕄} :
    stPts c cc0_stg3_0 E
      ⊢ iprop((stPts c cc0_stg3_0 E -∗ Ψ ⟨k0_pay12 v2 v4 v18 v20 v35 v36 v37 v38 c0_i32 (ew0 E) (ew1 E), k0_pay13 v2 v18 v35, k0_pay14 v2 v20, k0_pay15 (F := F)⟩)
        -∗ W c (k0_part2 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 v2 v4 v18 v20 v35 v36 v37 v38 c0_i32) Ψ) := by
  simp only [k0_part2_eq_skeleton]; unfold k0_part2_skel
  simp only [Prog.lift, Prog.bind_op, Prog.bind_ret, Prog.pure_eq_ret]
  unfold ew0 ew1
  iintro HE Hk
  iapply (wp_load 𝒱₀ (c : Thread nD τ) none Set.univ (m := ewM) (Finset.subset_univ _)) $$ HE; iintro HE
  iapply (wp_load 𝒱₀ (c : Thread nD τ) none Set.univ (m := ewM) (Finset.subset_univ _)) $$ HE; iintro HE
  iapply W_ret
  iapply Hk
  iexact HE

theorem part3 (E : (cc0_stg3_0 : Ref sig .tc).ty.Contents (Elt F)) (fp : Buf (Elt F) ((c : Thread nD τ).loc cc0_scratch0)) (fc : Buf (Elt F) ((c : Thread nD τ).loc cc0_scratch1))
    (v2 : BitVec 32) (v4 : FVec F S1024x256 .bf16) (v18 : IVec S1024x1 32) (v20 : IVec S1024x1 32) (v35 : FVec F S1024x1 .f32) (v36 : FVec F S1024x1 .f32) (v71 : FVec F S1024x512 .f32) (v77 : FVec F S1024x1 .f32) (v79 : IVec S1024x1 1) (v80 : FVec F S1024x1 .f32)
    (hP : k0_pay16 v2 v4 v18 v20 v35 v36 v71 v77 v79 v80 (ew2 E) (ew3 E) = partV m c)
    {Ψ : (Σ' (v118 : Sems sig S_), BitVec 32) → sProp 𝕄} :
    iprop(stPts c cc0_stg3_0 E ∗ stPts c cc0_scratch0 fp ∗ stPts c cc0_scratch1 fc)
      ⊢ iprop(((stPts c cc0_stg3_0 E ∗ stPts c cc0_scratch0 (partV m c)
            ∗ slotPts c c (commV m c) ∗ bigSep (Finset.Ico 1 32) fun j => iprop(∃ f, slotPts c (pr c j) f))
          -∗ Ψ ⟨SemArray.scalar (sig.barrier 0 rfl), Scalar.addi v2 1#32⟩)
        -∗ W c (k0_part3 (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3 c v2 v4 v18 v20 v35 v36 v71 v77 v79 v80) Ψ) := by
  simp only [k0_part3_eq_skeleton]; unfold k0_part3_skel
  simp only [Prog.lift, Prog.bind_op, Prog.bind_ret, Prog.pure_eq_ret]
  unfold ew2 ew3 at hP
  iintro ⟨HE, Hp, Hc⟩ Hk
  unfold W
  iapply (wp_load 𝒱₀ (c : Thread nD τ) none Set.univ (m := ewM) (Finset.subset_univ _)) $$ HE; iintro HE
  iapply (wp_load 𝒱₀ (c : Thread nD τ) none Set.univ (m := ewM) (Finset.subset_univ _)) $$ HE; iintro HE
  iapply (wp_load 𝒱₀ (c : Thread nD τ) none Set.univ (m := pM) (Finset.subset_univ _)) $$ Hp; iintro Hp
  iapply (wp_store 𝒱₀ (c : Thread nD τ) none Set.univ (m := pM) (r := Rect.unit (s := S1024x512) ![0, 0] S1024x512.size inb_S1024x512_S1024x512_0_0) (Mk := Finset.univ) (Finset.subset_univ _)) $$ Hp; iintro Hp
  rw [show (pM.access (Rect.unit (s := S1024x512) ![0, 0] S1024x512.size inb_S1024x512_S1024x512_0_0) : View sig .tc _ _ _).write (Elt F) fp
      (k0_pay16 v2 v4 v18 v20 v35 v36 v71 v77 v79 v80 _ _) Finset.univ = partV m c from
    (Memref.write_access_unit_zero_univ (Elt F) cc0_scratch0 hz2 _ fp _).trans hP]
  iapply (wp_load 𝒱₀ (c : Thread nD τ) none Set.univ (m := pM) (Finset.subset_univ _)) $$ Hp; iintro Hp
  iapply (wp_load 𝒱₀ (c : Thread nD τ) none Set.univ (m := cM) (Finset.subset_univ _)) $$ Hc; iintro Hc
  iapply (wp_store 𝒱₀ (c : Thread nD τ) none Set.univ (m := cM) (r := Rect.unit (s := S32x32x512) (k0_off2 c) S1x32x512.size (k0_off2_inb c)) (Mk := Finset.univ) (Finset.subset_univ _)) $$ Hc; iintro Hc
  rw [wp_ret]; imodintro
  iapply Hk
  isplitl [HE]; · iexact HE
  isplitl [Hp]; · iexact Hp
  ihave Hs := (comm_split m c _ (own_slot m c fc (k0_off2_eq c) (k0_off2_inb c) (k0_off1_eq c) (k0_off1_inb c))) $$ Hc
  iexact Hs

/-! ## The pipeline's proof data -/

/-- The positions and the tokens of the duties that device `c` pays. -/
def payToks : sProp 𝕄 :=
  iprop(bigSep Finset.univ (fun k : Unit ⊕ Fin 64 => atPos ER (kcell (c, k)) 0 ∅ 0)
    ∗ bigSep (Finset.Ico 1 32) (fun j => dutyTok ER (barCell (pr c j)) 0 c)
    ∗ bigSep (Finset.Ico 1 32) (fun j => dutyTok ER (sendCell c (pr 0 j)) 0 0)
    ∗ bigSep (Finset.Ico 1 32) (fun j => dutyTok ER (recvCell (pr c j) c) 0 0))

def ghost : sProp 𝕄 := iprop(recs m K ∗ payToks c)

/-- What device `c`'s body starts from. -/
def start : sProp 𝕄 :=
  iprop((∃ K, ghost m K c) ∗ cred (tallyAt (barCell c) () 31) ∗ bigSep (Finset.Ico 1 32) (fun j => cred (tallyAt (recvCell c (pr c j)) () N)) ∗ levAts L lv)

def Φ₀ : sProp 𝕄 := iprop(start m c ∗ (∃ f, stPts c cc0_scratch0 f) ∗ ∃ f, stPts c cc0_scratch1 f)
/-- After the point: the two scratch buffers, every own semaphore and the barrier's at zero. -/
def Φ₁ : sProp 𝕄 :=
  iprop((∃ f, stPts (F := F) c cc0_scratch0 f) ∗ (∃ f, stPts (F := F) c cc0_scratch1 f) ∗ bigSep Finset.univ (fun i : Fin 64 => semVal (dmaCell c i) 0) ∗ semVal (barCell c) 0)

variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rwstg m c
    | ⟨2, _⟩ => ixstg m c
    | ⟨3, _⟩ => ewstg m c
    | ⟨4, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m K c ∗ cred (tallyAt (barCell c) () 31) ∗ bigSep (Finset.Ico 1 32) (fun j => cred (tallyAt (recvCell c (pr c j)) () N)) ∗ levAts L lv
      ∗ (∃ f, stPts c cc0_scratch0 f) ∗ ∃ f, stPts c cc0_scratch1 f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost : sProp 𝕄 :=
  iprop(Φ₁ c ∗ (dats m ρ 0 c).owesAt () t0_0.succ ∗ stg c cc0_stg0_0 (xstg m c) ∗ stg c cc0_stg1_0 (rwstg m c)
    ∗ stg c cc0_stg2_0 (ixstg m c) ∗ stg c cc0_stg3_0 (ewstg m c) ∗ stg c cc0_stg4_0 (outV m c))

/-! ## Regroupings of what the body starts and ends with -/

theorem dmas_split (Φ : Fin 64 → sProp 𝕄) :
    bigSep Finset.univ Φ = iprop((Φ (Fin.castAdd 32 (0 : Fin 32)) ∗ bigSep (Finset.Ico 1 32) fun j => Φ (Fin.castAdd 32 (pr 0 j)))
      ∗ Φ (Fin.natAdd 32 c) ∗ bigSep (Finset.Ico 1 32) fun j => Φ (Fin.natAdd 32 (pr c j))) := by
  rw [bigSep_univ_equiv (finSumFinEquiv (m := 32) (n := 32)) Φ, bigSep_univ_sum]
  refine congrArg₂ (fun a b : sProp 𝕄 => iprop(a ∗ b)) ?_ ?_
  · exact bigSep_devs 0 fun k : Fin 32 => Φ (Fin.castAdd 32 k)
  · exact bigSep_devs c fun s : Fin 32 => Φ (Fin.natAdd 32 s)

theorem kinds_split (Φ : Unit ⊕ Fin 64 → sProp 𝕄) :
    bigSep Finset.univ Φ = iprop(Φ (.inl ()) ∗ bigSep Finset.univ fun i : Fin 64 => Φ (.inr i)) := by
  rw [bigSep_univ_sum]
  refine congrArg₂ (fun a b : sProp 𝕄 => iprop(a ∗ b)) ?_ rfl
  exact bigSep_singleton

theorem swt_in : iprop(bigSep (Finset.Ico 1 32) (sndCr (F := F) c) ∗ bigSep (Finset.Ico 1 32) (fun j => atPos ER (sendCell c (pr 0 j)) 0 ∅ 0))
    ⊢ bigSep (Finset.Ico 1 32) (swtIn (F := F) c) := by
  unfold swtIn; rw [bigSep_sep']

theorem rcv_in : iprop(bigSep (Finset.Ico 1 32) (fun j => cred (tallyAt (recvCell c (pr c j)) () N)) ∗ bigSep (Finset.Ico 1 32) (fun j => atPos ER (recvCell c (pr c j)) 0 ∅ 0))
    ⊢ bigSep (Finset.Ico 1 32) (rcvIn (F := F) c) := by
  unfold rcvIn; rw [bigSep_sep']

theorem sig_in : iprop(bigSep (Finset.Ico 1 32) (fun j => dutyTok ER (barCell (pr c j)) 0 c) ∗ bigSep (Finset.Ico 1 32) (fun j => iprop(∃ f, slotPts c (pr c j) f)))
    ⊢ bigSep (Finset.Ico 1 32) (sigIn (F := F) c) := by
  unfold sigIn; rw [bigSep_sep']

theorem snd_in : iprop(bigSep (Finset.Ico 1 32) (fun j => dutyTok ER (sendCell c (pr 0 j)) 0 0) ∗ bigSep (Finset.Ico 1 32) (fun j => dutyTok ER (recvCell (pr c j) c) 0 0)
      ∗ bigSep (Finset.Ico 1 32) (fun j => rowPts c (pr c j) (partV m c)))
    ⊢ bigSep (Finset.Ico 1 32) (sndIn m c) := by
  unfold sndIn; rw [bigSep_sep', bigSep_sep']

theorem rcv_out : bigSep (Finset.Ico 1 32) (rcvOut m c)
    ⊢ iprop(bigSep (Finset.Ico 1 32) (fun j => semVal (recvCell c (pr c j)) 0) ∗ bigSep (Finset.Ico 1 32) (fun j => slotPts c (pr c j) (commV m c))) := by
  unfold rcvOut; rw [bigSep_sep']

theorem swt_out : bigSep (Finset.Ico 1 32) (swtOut m c)
    ⊢ iprop(bigSep (Finset.Ico 1 32) (fun j => semVal (sendCell c (pr 0 j)) 0) ∗ bigSep (Finset.Ico 1 32) (fun j => rowPts c (pr c j) (partV m c))) := by
  unfold swtOut; rw [bigSep_sep']

theorem enter (Ws : Waits sig Unit) :
    iprop(recs m K ∗ owes (c : Thread nD τ) (oSnd c 1 + oBar c 1) Ws ∗ bigSep (Finset.Ico 1 32) (sigIn (F := F) c)) ⊢ SigSt m K c 1 := by
  unfold SigSt
  iintro ⟨HR, HO, Hs⟩
  isplitl [HR]; · iexact HR
  isplitl [HO]; · iexists Ws; iexact HO
  iexact Hs

/-! ## The body -/

set_option maxHeartbeats 4000000 in
/-- The body, from `bodyPre` to `bodyPost`. -/
theorem sound_body (Kt : PUnit → sProp 𝕄) :
    iprop(bodyPre m K c ρ ∗ (bodyPost m c ρ -∗ Kt ⟨⟩))
      ⊢ W c (cc0_body (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3) Kt := by
  simp only [cc0_body_eq_skeleton]; unfold cc0_body_skel
  unfold bodyPre ghost payToks
  rw [kinds_split, dmas_split c]
  iintro ⟨⟨⟨⟨#HR, ⟨HatB, ⟨HatS0, HatS⟩, HatRc, HatR⟩, HtB, HtS, HtR⟩, HcB, HcR, #Hlev, ⟨%fp, Hp⟩, ⟨%fc, Hc⟩⟩,
    Ho, ⟨%d0, %g0, %hg0, HX⟩, ⟨%d1, %g1, %hg1, HW⟩, ⟨%d2, %g2, %hg2, HI⟩, ⟨%d3, %g3, %hg3, HE⟩, ⟨%d4, %g4, %hg4, Hout⟩⟩, Hk⟩
  have h0 : g0 = xstg m c := by rw [hg0]; unfold Dat.before; rw [if_pos (fetch0_0 t0_0)]; rfl
  have h1 : g1 = rwstg m c := by rw [hg1]; unfold Dat.before; rw [if_pos (fetch0_1 t0_0)]; rfl
  have h2 : g2 = ixstg m c := by rw [hg2]; unfold Dat.before; rw [if_pos (fetch0_2 t0_0)]; rfl
  have h3 : g3 = ewstg m c := by rw [hg3]; unfold Dat.before; rw [if_pos (fetch0_3 t0_0)]; rfl
  subst h0 h1 h2 h3
  unfold Dat.owesAt Pipeline.owesWithin
  icases Ho with ⟨%Ws, %hW, HO⟩
  rw [show (dats m ρ 0 c).owed t0_0.castSucc = oSnd c 1 + oBar c 1 from rfl]
  iapply W_bind
  iapply (part1 c (xstg m c) (rwstg m c) (ixstg m c)) $$ [HX HW HI]
  · isplitl [HX]; · iexact HX
    isplitl [HW]; · iexact HW
    iexact HI
  iintro ⟨HX, HW, HI⟩
  dsimp only
  iapply W_bind
  iapply (part2 c (ewstg m c)) $$ HE; iintro HE
  dsimp only
  iapply W_bind
  iapply (part3 m c (ewstg m c) fp fc _ _ _ _ _ _ _ _ _ _ rfl) $$ [HE Hp Hc]
  · isplitl [HE]; · iexact HE
    isplitl [Hp]; · iexact Hp
    iexact Hc
  iintro ⟨HE, Hp, Hown, Hslots⟩
  dsimp only
  ihave Hp' := (Entails.of_eq ((part_rows c (partV m c)).trans (bigSep_devs c _))) $$ Hp
  icases Hp' with ⟨Hrow, Hrows⟩
  ihave Hsig := (sig_in c) $$ [HtB Hslots]
  · isplitl [HtB]; · iexact HtB
    iexact Hslots
  ihave Hsnd := (snd_in m c) $$ [HtS HtR Hrows]
  · isplitl [HtS]; · iexact HtS
    isplitl [HtR]; · iexact HtR
    iexact Hrows
  ihave Hrcv := (rcv_in c) $$ [HcR HatR]
  · isplitl [HcR]; · iexact HcR
    iexact HatR
  ihave H := (enter m K c Ws) $$ [HO Hsig]
  · isplitr; · iexact HR
    isplitl [HO]; · iexact HO
    iexact Hsig
  iapply W_bind
  iapply (part4 m K c) $$ H; iintro %v4 H
  try dsimp only
  iapply W_bind
  iapply (part5 m K c) $$ H; iintro %v5 H
  try dsimp only
  iapply W_bind
  iapply (part6 m K c) $$ H; iintro %v6 H
  try dsimp only
  iapply W_bind
  iapply (part7 m K c) $$ H; iintro %v7 H
  try dsimp only
  iapply W_bind
  iapply (part8 m K c) $$ H; iintro %v8 H
  try dsimp only
  iapply W_bind
  iapply (part9 m K c) $$ [H HcB HatB Hsnd]
  · isplitl [H]; · iexact H
    isplitr; · iexact Hlev
    isplitl [HcB]; · iexact HcB
    isplitl [HatB]; · iexact HatB
    iexact Hsnd
  iintro %v9 ⟨H, HzB⟩
  obtain ⟨a9, b9⟩ := v9
  try dsimp only
  iapply W_bind
  iapply (part10 m K c) $$ H; iintro %v10 H
  try dsimp only
  iapply W_bind
  iapply (part11 m K c) $$ H; iintro %v11 H
  try dsimp only
  iapply W_bind
  iapply (part12 m K c) $$ H; iintro %v12 H
  try dsimp only
  iapply W_bind
  iapply (part13 m K c) $$ H; iintro %v13 H
  obtain ⟨a13, b13⟩ := v13
  try dsimp only
  iapply W_bind
  iapply (part14 m K c) $$ H; iintro %v14 H
  try dsimp only
  iapply W_bind
  iapply (part15 m K c) $$ H; iintro %v15 H
  try dsimp only
  iapply W_bind
  iapply (part16 m K c) $$ H; iintro %v16 H
  try dsimp only
  iapply W_bind
  iapply (part17 m K c) $$ H; iintro %v17 H
  try dsimp only
  iapply W_bind
  iapply (part18 m K c) $$ H; iintro %v18 H
  try dsimp only
  iapply W_bind
  iapply (part19 m K c) $$ H; iintro %v19 H
  try dsimp only
  iapply W_bind
  iapply (part20 m K c) $$ [H Hrcv]
  · isplitl [H]; · iexact H
    iexact Hrcv
  iintro %v20 ⟨H, HcS⟩
  obtain ⟨a20, b20⟩ := v20
  try dsimp only
  iapply W_bind
  iapply (part21 m K c) $$ H; iintro %v21 H
  try dsimp only
  iapply W_bind
  iapply (part22 m K c) $$ H; iintro %v22 H
  try dsimp only
  iapply W_bind
  iapply (part23 m K c) $$ H; iintro %v23 H
  try dsimp only
  iapply W_bind
  iapply (part24 m K c) $$ H; iintro %v24 H
  try dsimp only
  iapply W_bind
  iapply (part25 m K c) $$ H; iintro %v25 H
  try dsimp only
  iapply W_bind
  iapply (part26 m K c) $$ H; iintro %v26 H
  try dsimp only
  iapply W_bind
  iapply (part27 m K c) $$ H; iintro %v27 H
  try dsimp only
  iapply W_bind
  iapply (part28 m K c) $$ H; iintro %v28 H
  try dsimp only
  iapply W_bind
  iapply (part29 m K c) $$ H; iintro %v29 H
  try dsimp only
  iapply W_bind
  ihave Hswt := (swt_in c) $$ [HcS HatS]
  · isplitl [HcS]; · iexact HcS
    iexact HatS
  iapply (part30 m K c) $$ [H Hswt]
  · isplitl [H]; · iexact H
    iexact Hswt
  iintro %v30 ⟨H, Hcomm⟩
  try dsimp only
  iapply W_bind
  iapply (part31 m K c) $$ H; iintro %v31 H
  try dsimp only
  iapply W_bind
  iapply (part32 m K c) $$ H; iintro %v32 H
  try dsimp only
  iapply W_bind
  iapply (part33 m K c) $$ H; iintro %v33 H
  try dsimp only
  iapply W_bind
  iapply (part34 m K c) $$ H; iintro %v34 H
  try dsimp only
  iapply W_bind
  iapply (part35 m K c) $$ H; iintro %v35 H
  try dsimp only
  simp only [Prog.lift, Prog.bind_op, Prog.bind_ret, Prog.pure_eq_ret]
  iapply (swt_step m K (k := 31) (by decide) (rows_eq (pr c 31) (k0_off5_eq c 30) _) (send_sem (pr 0 31) rfl _)) $$ H; iintro H
  unfold SwtSt
  icases H with ⟨-, ⟨%We, HO⟩, -, Hsw⟩
  ihave Hsw' := (swt_out m c) $$ Hsw
  icases Hsw' with ⟨HzS, Hrows⟩
  ihave Hrc' := (rcv_out m c) $$ Hcomm
  icases Hrc' with ⟨HzR, Hslots⟩
  ihave Hc := (Entails.of_eq ((comm_slots c (commV m c)).trans (bigSep_devs c _)).symm) $$ [Hown Hslots]
  · isplitl [Hown]; · iexact Hown
    iexact Hslots
  ihave Hp := (Entails.of_eq ((part_rows c (partV m c)).trans (bigSep_devs c _)).symm) $$ [Hrow Hrows]
  · isplitl [Hrow]; · iexact Hrow
    iexact Hrows
  imod (Rounds.cell_close ER (xRd m) (Set.mem_univ (K (c, Sum.inr (Fin.castAdd 32 (0 : Fin 32))))) (fun h => h) (R := 0)
    (fun r _ => duties_send_zero m c r)) $$ [HatS0] with HzS0
  · isplitr; · iapply (recs_inv m K (c, Sum.inr (Fin.castAdd 32 (0 : Fin 32)))); iexact HR
    iexact HatS0
  imod (Rounds.cell_close ER (xRd m) (Set.mem_univ (K (c, Sum.inr (Fin.natAdd 32 c)))) (fun h => h) (R := 0)
    (fun r _ => duties_recv_self m c r)) $$ [HatRc] with HzRc
  · isplitr; · iapply (recs_inv m K (c, Sum.inr (Fin.natAdd 32 c))); iexact HR
    iexact HatRc
  iapply (wp_load 𝒱₀ (c : Thread nD τ) none Set.univ (m := cM) (Finset.subset_univ _)) $$ Hc; iintro Hc
  rw [show cM.view.readAt (Elt F) (Rect.unit (s := S32x32x512) ![0, 0, 0] S32x32x512.size inb_S32x32x512_S32x32x512_0_0_0).toLoadRect (commV m c) = commV m c
    from Memref.readAt_unit_zero (Elt F) cc0_scratch1 hz3 _ _]
  iapply (wp_load 𝒱₀ (c : Thread nD τ) none Set.univ (m := oM) (Finset.subset_univ _)) $$ Hout; iintro Hout
  iapply (wp_store 𝒱₀ (c : Thread nD τ) none Set.univ (m := oM) (r := Rect.unit (s := S32x512) ![0, 0] S32x512.size inb_S32x512_S32x512_0_0) (Mk := Finset.univ) (Finset.subset_univ _)) $$ Hout; iintro Hout
  rw [show (oM.access (Rect.unit (s := S32x512) ![0, 0] S32x512.size inb_S32x512_S32x512_0_0) : View sig .tc _ _ _).write (Elt F) g4 (k0_pay1 (commV m c)) Finset.univ = outV m c
    from Memref.write_access_unit_zero_univ (Elt F) cc0_stg4_0 hz2 _ _ _]
  rw [wp_ret]; imodintro
  iapply Hk
  unfold bodyPost Φ₁ Dat.owesAt Pipeline.owesWithin
  rw [show (dats m ρ 0 c).owed t0_0.succ = 0 from rfl, dmas_split c]
  isplitl [Hp Hc HzS0 HzS HzRc HzR HzB]
  · isplitl [Hp]; · iexists _; iexact Hp
    isplitl [Hc]; · iexists _; iexact Hc
    isplitr [HzB]
    · isplitl [HzS0 HzS]
      · isplitl [HzS0]; · iexact HzS0
        iexact HzS
      isplitl [HzRc]; · iexact HzRc
      iexact HzR
    iexact HzB
  isplitl [HO]
  · iexists We
    isplitr; · ipureintro; exact fun _ _ => Or.inl trivial
    iexact HO
  isplitl [HX]
  · iexists _; isplitr; · (ipureintro; rfl)
    iexact HX
  isplitl [HW]
  · iexists _; isplitr; · (ipureintro; rfl)
    iexact HW
  isplitl [HI]
  · iexists _; isplitr; · (ipureintro; rfl)
    iexact HI
  isplitl [HE]
  · iexists _; isplitr; · (ipureintro; rfl)
    iexact HE
  iexists _; isplitr; · (ipureintro; rfl)
  iexact Hout

def bodyPre' : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- The library's body obligation on core `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre' m c ρ ⊢ W c (cc0_body (F := F) xM (Memref.isWhole_whole _) rwM (Memref.isWhole_whole _) ixM (Memref.isWhole_whole _) ewM (Memref.isWhole_whole _) oM (Memref.isWhole_whole _)
      pM (Memref.isWhole_whole _) cM (Memref.isWhole_whole _) cc0_scratch2 cc0_scratch3) (fun _ => bodyPost m c ρ)
  unfold bodyPre' Φ₀ start
  iintro ⟨⟨⟨⟨%K, Hg⟩, H1, H2, H3⟩, Hs0, Hs1⟩, Ho, Hrest⟩
  iapply (sound_body m K c ρ fun _ => bodyPost m c ρ)
  unfold bodyPre
  isplitr []
  · isplitl [Hg H1 H2 H3 Hs0 Hs1]
    · isplitl [Hg]; · iexact Hg
      isplitl [H1]; · iexact H1
      isplitl [H2]; · iexact H2
      isplitl [H3]; · iexact H3
      isplitl [Hs0]; · iexact Hs0
      iexact Hs1
    isplitl [Ho]; · iexact Ho
    iexact Hrest
  · iintro H; iexact H

end Cert.KernelIdealProof

end
-- ==== Proof.KernelIdealRun.lean ====
/-
# 01_k — the launch: every device's run from the body's
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Names) (c : Dev nD) (ρ : Dev nD → PrngReg)

theorem ownSemFacts : Pipeline.OwnSemFacts cfg0.spec osem := by decide

theorem share_eq (w : Fin cfg0.W) : (dats m ρ 0 c).share w = fullShare := by unfold Dat.share; split <;> rfl

/-! ## Cells and tokens, as minted -/

theorem osem_injective : Function.Injective osem := fun i j h => by
  have h1 : dmaS i = dmaS j := SemLoc.dma.inj h
  have h2 : 5 + i.val = 5 + j.val := congrArg (fun q => Fin.val q) h1
  exact Fin.ext (by omega)

theorem kcell_injective : Function.Injective kcell := by
  rintro ⟨c, k⟩ ⟨c', k'⟩ h
  have h1 : c = c' := congrArg (fun g : GSem nD τ sig => g.1.1) h
  subst h1
  have h2 : csem k = csem k' := congrArg Prod.snd h
  rcases k with u | i <;> rcases k' with u' | i'
  · rfl
  · exact absurd h2 (by simp)
  · exact absurd h2 (by simp)
  · exact congrArg (fun i => (c, Sum.inr i)) (osem_injective h2)

def ringCells : Finset (GSem nD τ sig) := Finset.univ.map ⟨kcell, kcell_injective⟩

/-- A device's own cells' duty tokens: its barrier's, one for each device, and one for each of its 64 others. -/
abbrev tokOf (ct : Dev nD × (Dev nD ⊕ Fin 64)) : GSem nD τ sig × ℕ × Fin 32 := match ct.2 with
  | .inl d => (barCell ct.1, 0, d)
  | .inr i => (dmaCell ct.1 i, 0, 0)

theorem tokOf_injective : Function.Injective tokOf := by
  rintro ⟨c, k⟩ ⟨c', k'⟩ h
  rcases k with d | i <;> rcases k' with d' | i'
  · have h1 : c = c' := congrArg (fun x : GSem nD τ sig × ℕ × Fin 32 => x.1.1.1) h
    have h2 : d = d' := congrArg (fun x : GSem nD τ sig × ℕ × Fin 32 => x.2.2) h
    rw [h1, h2]
  · exact absurd (congrArg (fun x : GSem nD τ sig × ℕ × Fin 32 => x.1.2) h) (by simp)
  · exact absurd (congrArg (fun x : GSem nD τ sig × ℕ × Fin 32 => x.1.2) h) (by simp)
  · have h1 : c = c' := congrArg (fun x : GSem nD τ sig × ℕ × Fin 32 => x.1.1.1) h
    have h2 : osem i = osem i' := congrArg (fun x : GSem nD τ sig × ℕ × Fin 32 => x.1.2) h
    rw [h1, osem_injective h2]

def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks : sProp 𝕄 :=
  iprop((bigSep Finset.univ fun d : Dev nD => dutyTok ER (barCell c) 0 d) ∗ bigSep Finset.univ fun i : Fin 64 => dutyTok ER (dmaCell c i) 0 0)

/-- What the launch element deals device `c`. -/
def G : sProp 𝕄 :=
  iprop((bigSep Finset.univ fun k : Unit ⊕ Fin 64 => roundState ER (xRd m) (kcell (c, k)) 0)
    ∗ ((bigSep Finset.univ fun k : Unit ⊕ Fin 64 => atPos ER (kcell (c, k)) 0 ∅ 0) ∗ bigSep Finset.univ fun k : Unit ⊕ Fin 64 => reached ER (kcell (c, k)) 0)
    ∗ toks c)

/-- What the global step makes of it. -/
def G' : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Unit ⊕ Fin 64 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (xRd m) ringCells ringToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Unit ⊕ Fin 64 => semVal (kcell (c, k)) 0 : sProp 𝕄) := by
  rw [unscopedSems0_eq, kinds_split]
  unfold Pipeline.ownSems0
  iintro ⟨HS, HB⟩
  isplitl [HB]; · iexact HB
  iexact HS

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ ((bigSep Finset.univ fun k : Unit ⊕ Fin 64 => atPos ER (kcell (c, k)) 0 ∅ 0) ∗ bigSep Finset.univ fun k : Unit ⊕ Fin 64 => reached ER (kcell (c, k)) 0)
          ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Unit ⊕ Fin 64 => semVal (kcell (c, k)) 0) ∗ bigSep Finset.univ fun k : Unit ⊕ Fin 64 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Tokens over all pairs, dealt from the device that holds the cell to the device that pays. -/
theorem deal (Φ : Dev nD → Dev nD → sProp 𝕄) :
    (bigSep Finset.univ fun c : Dev nD => bigSep Finset.univ fun d : Dev nD => Φ c d)
      ⊢ bigSep Finset.univ fun d : Dev nD => bigSep (Finset.Ico 1 32) fun j => Φ (pr d j) d := by
  rw [bigSep_univ_comm]
  refine bigSep_mono fun d _ => ?_
  rw [bigSep_devs d]
  exact sep_and.trans and_elimR

theorem toks_around : (bigSep Finset.univ fun c : Dev nD => (toks c : sProp 𝕄))
    ⊢ iprop((bigSep Finset.univ fun c : Dev nD => bigSep (Finset.Ico 1 32) fun j => dutyTok ER (barCell (pr c j)) 0 c)
      ∗ (bigSep Finset.univ fun c : Dev nD => bigSep (Finset.Ico 1 32) fun j => dutyTok ER (sendCell c (pr 0 j)) 0 0)
      ∗ bigSep Finset.univ fun c : Dev nD => bigSep (Finset.Ico 1 32) fun j => dutyTok ER (recvCell (pr c j) c) 0 0) := by
  have hD (c : Dev nD) : (bigSep Finset.univ fun i : Fin 64 => (dutyTok ER (dmaCell c i) 0 0 : sProp 𝕄))
      ⊢ iprop((bigSep (Finset.Ico 1 32) fun j => dutyTok ER (sendCell c (pr 0 j)) 0 0) ∗ bigSep Finset.univ fun s : Fin 32 => dutyTok ER (recvCell c s) 0 0) := by
    rw [dmas_split c, bigSep_devs c fun s : Fin 32 => (dutyTok ER (recvCell c s) 0 0 : sProp 𝕄)]
    exact sep_mono_left (BI.sep_and.trans BI.and_elimR)
  unfold toks
  rw [bigSep_sep']
  refine BI.sep_mono (deal fun c d => dutyTok ER (barCell c) 0 d) ?_
  refine (bigSep_mono fun c _ => hD c).trans ?_
  rw [bigSep_sep']
  exact sep_mono_right (deal fun c s => dutyTok ER (recvCell c s) 0 0)

theorem ghost_intro : iprop(recs m K ∗ payToks (F := F) c) ⊢ G' m c := by
  unfold G' ghost
  iintro H
  iexists K
  iexact H

theorem regroup :
    (bigSep Finset.univ fun c : Dev nD => iprop((bigSep Finset.univ fun k => iprop(∃ κ : ℕ, cellInv ER (xRd m) κ (kcell (c, k))))
          ∗ ((bigSep Finset.univ fun k : Unit ⊕ Fin 64 => atPos ER (kcell (c, k)) 0 ∅ 0) ∗ bigSep Finset.univ fun k : Unit ⊕ Fin 64 => reached ER (kcell (c, k)) 0)
          ∗ toks c) : sProp 𝕄)
      ⊢ bigSep Finset.univ (G' m) := by
  rw [bigSep_sep', bigSep_sep', bigSep_sep', ← bigSep_univ_prod (fun ck : Dev nD × (Unit ⊕ Fin 64) => iprop(∃ κ : ℕ, cellInv ER (xRd m) κ (kcell ck))),
    ← bigSep_univ_prod (fun ck : Dev nD × (Unit ⊕ Fin 64) => (reached ER (kcell ck) 0 : sProp 𝕄))]
  iintro ⟨HI, ⟨Hat, #HR⟩, Htok⟩
  ihave HK := (BI.bigSep_exists_pi Finset.univ (fun (ck : Dev nD × (Unit ⊕ Fin 64)) (κ : ℕ) => (cellInv ER (xRd m) κ (kcell ck) : sProp 𝕄))) $$ HI
  icases HK with ⟨%K, #HI⟩
  ihave Htk := (toks_around (F := F)) $$ Htok
  icases Htk with ⟨Hb, Hs, Hr⟩
  iapply (BI.bigSep_with_persistent (R := recs m K) fun c _ => ghost_intro m K c)
  isplitr
  · unfold recs; isplitl; · iexact HI
    iexact HR
  · unfold payToks
    simp only [bigSep_sep']
    isplitl [Hat]; · iexact Hat
    isplitl [Hb]; · iexact Hb
    isplitl [Hs]; · iexact Hs
    iexact Hr

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_ne_dma (c d : Dev nD) (i : Fin 64) : dmaCell d i ≠ barCell c := fun h => by
  have := congrArg Prod.snd h
  simp at this

theorem bar_eq_iff {a b : Dev nD} : Iff (barCell a = barCell b) (a = b) :=
  ⟨fun h => congrArg (fun g : GSem nD τ sig => g.1.1) h, fun h => h ▸ rfl⟩

theorem recv_eq_iff {a b : Dev nD} {s t : Fin 32} : Iff (recvCell a s = recvCell b t) (a = b ∧ s = t) := by
  constructor
  · intro h
    refine ⟨congrArg (fun g : GSem nD τ sig => g.1.1) h, ?_⟩
    have h2 : osem (Fin.natAdd 32 s) = osem (Fin.natAdd 32 t) := congrArg Prod.snd h
    have h3 : 32 + s.val = 32 + t.val := congrArg (fun i : Fin 64 => i.val) (osem_injective h2)
    exact Fin.ext (by omega)
  · rintro ⟨rfl, rfl⟩; rfl

/-- Over the distances, each other device comes once and the device itself never. -/
theorem count_pr (d c : Fin 32) (n : ℕ) : (∑ j ∈ Finset.Ico 1 32, if pr d j = c then n else 0) = if d = c then 0 else n := by
  rw [← Finset.sum_image (f := fun e => if e = c then n else 0) (pr_injOn d), image_pr, Finset.sum_ite_eq']
  by_cases h : d = c
  · rw [if_pos h, if_neg (by simp [h])]
  · rw [if_neg h, if_pos (by simp [Ne.symm h])]

theorem owed_bar (d : Dev nD) : O₀ d (barCell c) () = if d = c then 0 else 1 := by
  unfold O₀ oSnd oBar
  rw [Pi.add_apply, Finsupp.add_apply, sum_apply, sum_apply, ← count_pr d c 1, Finset.sum_eq_zero, Nat.zero_add]
  · refine Finset.sum_congr rfl fun j _ => ?_
    rw [tallyAt_apply]
    by_cases h : pr d j = c
    · rw [if_pos h, if_pos ⟨by rw [h], rfl⟩]
    · rw [if_neg h, if_neg fun ⟨h1, _⟩ => h (by first | exact bar_eq_iff.mp h1 | exact (bar_eq_iff.mp h1).symm)]
  · intro j _
    rw [tallyAt_ne_cell (by first | exact bar_ne_dma _ _ _ | exact (bar_ne_dma _ _ _).symm), Finsupp.zero_apply]

theorem owed_recv (d : Dev nD) (s : Fin 32) : O₀ d (recvCell c s) () = if d = s then (if d = c then 0 else N) else 0 := by
  unfold O₀ oSnd oBar
  rw [Pi.add_apply, Finsupp.add_apply, sum_apply, sum_apply, Finset.sum_eq_zero (f := fun j => (tallyAt (barCell (pr d j)) () 1 : CellTallies nD τ sig Unit) _ _), Nat.add_zero]
  · by_cases hs : d = s
    · rw [if_pos hs, ← count_pr d c N]
      refine Finset.sum_congr rfl fun j _ => ?_
      rw [tallyAt_apply]
      by_cases h : pr d j = c
      · rw [if_pos h, if_pos ⟨by rw [h, hs], rfl⟩]
      · rw [if_neg h, if_neg fun ⟨h1, _⟩ => h (by first | exact (recv_eq_iff.mp h1).1 | exact (recv_eq_iff.mp h1).1.symm)]
    · rw [if_neg hs]
      refine Finset.sum_eq_zero fun j _ => ?_
      rw [tallyAt_apply, if_neg fun ⟨h1, _⟩ => hs (by first | exact (recv_eq_iff.mp h1).2 | exact (recv_eq_iff.mp h1).2.symm)]
  · intro j _
    rw [tallyAt_ne_cell (by first | exact bar_ne_dma _ _ _ | exact (bar_ne_dma _ _ _).symm), Finsupp.zero_apply]

theorem launch_bar :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar c d]
  revert c
  decide

theorem launch_recv {s : Fin 32} (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv c d s, Finset.sum_ite_eq' Finset.univ s,
    if_pos (Finset.mem_univ _), if_neg h]

theorem creds :
    (Pipeline.launchCred O₀ c : sProp 𝕄)
      ⊢ iprop(cred (tallyAt (barCell c) () 31) ∗ bigSep (Finset.Ico 1 32) fun j => cred (tallyAt (recvCell c (pr c j)) () N)) := by
  have hinj : Set.InjOn (fun j : ℕ => (SemLoc.dma (recvS (pr c j)) : SemLoc sig)) (Finset.Ico 1 32 : Finset ℕ) := fun a ha b hb h =>
    pr_injOn c ha hb (recv_eq_iff (a := c) (b := c).mp (congrArg (fun sm => ((c : Thread nD τ), sm)) h)).2
  unfold Pipeline.launchCred
  rw [bigSep_univ_at _ (SemLoc.reg barS), launch_bar]
  refine sep_mono_right ((bigSep_subset (t := (Finset.Ico 1 32).image fun j : ℕ => (SemLoc.dma (recvS (pr c j)) : SemLoc sig)) fun sm h => ?_).trans ?_)
  · obtain ⟨j, -, rfl⟩ := Finset.mem_image.mp h
    exact Finset.mem_erase.mpr ⟨by simp, Finset.mem_univ _⟩
  · rw [bigSep_image_of_injOn hinj]
    refine Entails.of_eq (bigSep_congr fun j hj => ?_)
    rw [← launch_recv c (pr_ne c (Finset.mem_Ico.mp hj))]

/-! ## The theorem's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨H0, H1, Hz, HzB⟩
  isplitl [HzB]; · iexact HzB
  isplitl [Hz]; · iexact Hz
  isplitl [H0]; · iexact H0
  iexact H1

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m c ρ w

set_option maxRecDepth 8000 in
/-- On the mesh of 32 devices, for any float values, from any memory with zero counters: every weakly fair execution of
    the exchange terminates, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := fun w => by fin_cases w <;> exact Nat.succ_pos _) (harr := arr_whole0) (hstage := stage_whole0)
    (hshare := fun c => share_eq m c ρ)
    (hdistinct := winFacts0.arr_inj)
    (O₀ := O₀) (howed₀ := fun _ => rfl) (howedN := fun _ => rfl)
    (L := L) (lv := lv) (hL := L_of_ne) (hwaits := fun c => waits m c ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c ρ) (hin := fun c => phi0_intro m c ρ) (hout := fun c => phi1_exit m c ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_in (w : Fin cfg0.W) (h : w ≠ 4) : finalA m c ρ w = (s₀ m ρ).mem ((cfg0.win w).arr.view.loc (c : Thread nD τ)) := by
  have hin : (cfg0.win w).isOut = false := by
    revert w; decide
  exact (dats (F := F) m ρ 0 c).arrAt_in w hin _

end Cert.KernelIdealProof

end
-- ==== Proof.ValueKernel.lean ====
/-
# 01_k — what a device's kernel computes, at an index

The router's probabilities, the two gates of a token and a device's partial result, read at a token and a column.
-/
module

public import proofs.«01_k».proof.Proof.KernelIdealProtocol
public import Idealize.ShloMosaic.Lib.Pointwise
public import Idealize.ShloMosaic.PureOps.Ideal.Laws

@[expose] public section

noncomputable section

namespace Cert.MoeValue

open Cert.KernelIdeal Cert.KernelIdeal.Gen
open Idealize.ShloMosaic Idealize.ShloMosaic.TcCoe Idealize.SL.Sem

attribute [local instance] Cert.KernelIdeal.Gen.facts

/-- A token's score for an expert. -/
def score (x : S1024x256.Idx → EReal) (rw' : S256x128.Idx → EReal) (t : Fin 1024) (e : Fin 128) : EReal :=
  ∑ k : Fin 256, x (ix2 t k) * rw' (ix2 k e)

/-- A token's largest score. -/
def smax (x : S1024x256.Idx → EReal) (rw' : S256x128.Idx → EReal) (t : Fin 1024) : EReal :=
  Finset.univ.fold max (Ideal.ofBits .f32 0xFF800000#32) fun e : Fin 128 => score x rw' t e

/-- The exponential of a score, its token's largest score taken away. -/
def raised (x : S1024x256.Idx → EReal) (rw' : S256x128.Idx → EReal) (t : Fin 1024) (e : Fin 128) : EReal :=
  Ideal.exp (score x rw' t e - smax x rw' t)

/-- The probability of an expert. -/
def prob (x : S1024x256.Idx → EReal) (rw' : S256x128.Idx → EReal) (t : Fin 1024) (e : Fin 128) : EReal :=
  Ideal.div (raised x rw' t e) (∑ e' : Fin 128, raised x rw' t e')

/-- The kernel's probabilities, at a token and an expert. -/
theorem pay3_apply (x : Vec Ideal S1024x256 .bf16) (rw' : Vec Ideal S256x128 .bf16) (t : Fin 1024) (e : Fin 128) :
    k0_pay3 (F := Ideal) x rw' (ix2 t e) = prob x rw' t e := by
  pointwise [k0_pay3, k0_pay2]
  rfl

/-- Choosing by an equality of two words. -/
theorem select_eq {n : ℕ} {α : Type} (a b : BitVec n) (x y : α) :
    Scalar.select (IntOp.cmpi .eq a b) x y = if a = b then x else y := by
  by_cases h : a = b
  · subst h; simp [Scalar.select, IntOp.cmpi]
  · have hb : (a == b) = false := by simpa using h
    simp [Scalar.select, IntOp.cmpi, h, hb]

/-- A token's probability of the expert that a word names, `0` where the word names none. -/
def gate (x : S1024x256.Idx → EReal) (rw' : S256x128.Idx → EReal) (t : Fin 1024) (w : BitVec 32) : EReal :=
  ∑ e : Fin 128, if BitVec.ofNat 32 e.val = w then prob x rw' t e else 0

/-- The first gate of a token. -/
theorem pay6_apply (x : Vec Ideal S1024x256 .bf16) (rw' : Vec Ideal S256x128 .bf16) (i0 : Vec Ideal S1024x1 .i32) (t : Fin 1024) (z : Fin 1) :
    k0_pay6 (F := Ideal) x rw' i0 (ix2 t z) = gate x rw' t (i0 (ix2 t 0)) := by
  pointwise [k0_pay6, k0_pay4, pay3_apply]
  simp only [select_eq]
  rfl

/-- The second gate of a token. -/
theorem pay7_apply (x : Vec Ideal S1024x256 .bf16) (rw' : Vec Ideal S256x128 .bf16) (i1 : Vec Ideal S1024x1 .i32) (t : Fin 1024) (z : Fin 1) :
    k0_pay7 (F := Ideal) x rw' i1 (ix2 t z) = gate x rw' t (i1 (ix2 t 0)) := by
  pointwise [k0_pay7, k0_pay5, pay3_apply]
  simp only [select_eq]
  rfl

/-- A token's weight for the expert that `w` names, where `a` and `b` are its two: the probability over the sum of the two. -/
def weight (x : S1024x256.Idx → EReal) (rw' : S256x128.Idx → EReal) (t : Fin 1024) (w a b : BitVec 32) : EReal :=
  Ideal.div (gate x rw' t w) (gate x rw' t a + gate x rw' t b)

/-- The first weight of a token. -/
theorem pay9_apply (x : Vec Ideal S1024x256 .bf16) (rw' : Vec Ideal S256x128 .bf16) (i0 i1 : Vec Ideal S1024x1 .i32) (t : Fin 1024) (z : Fin 1) :
    k0_pay9 (F := Ideal) x rw' i0 i1 (ix2 t z) = weight x rw' t (i0 (ix2 t 0)) (i0 (ix2 t 0)) (i1 (ix2 t 0)) := by
  pointwise [k0_pay9, k0_pay8, pay6_apply, pay7_apply]
  rfl

/-- The second weight of a token. -/
theorem pay10_apply (x : Vec Ideal S1024x256 .bf16) (rw' : Vec Ideal S256x128 .bf16) (i0 i1 : Vec Ideal S1024x1 .i32) (t : Fin 1024) (z : Fin 1) :
    k0_pay10 (F := Ideal) x rw' i0 i1 (ix2 t z) = weight x rw' t (i1 (ix2 t 0)) (i0 (ix2 t 0)) (i1 (ix2 t 0)) := by
  pointwise [k0_pay10, k0_pay8, pay6_apply, pay7_apply]
  rfl

/-- What one expert adds at a token and a column: the weights of the indices that name it, times its product. -/
def term (w : BitVec 32) (a b : BitVec 32) (g0 g1 y : EReal) : EReal :=
  ((if a = w then g0 else 0) + (if b = w then g1 else 0)) * y

/-- The product of a token's row with a column of one expert's matrix. -/
def prod (x : S1024x256.Idx → EReal) (W : S1x256x512.Idx → EReal) (t : Fin 1024) (f : Fin 512) : EReal :=
  ∑ d : Fin 256, x (ix2 t d) * W (ix3 0 d f)

/-- The words that a device compares with: the numbers of its four experts. -/
theorem word0 (c : Fin 32) : Scalar.addi (Scalar.muli (Cert.KernelIdealProof.devW c) 4#32) 0#32 = BitVec.ofNat 32 (4 * c.val) := by
  revert c; decide
theorem word1 (c : Fin 32) : Scalar.addi (Scalar.muli (Cert.KernelIdealProof.devW c) 4#32) 1#32 = BitVec.ofNat 32 (4 * c.val + 1) := by
  revert c; decide
theorem word2 (c : Fin 32) : Scalar.addi (Scalar.muli (Cert.KernelIdealProof.devW c) 4#32) 2#32 = BitVec.ofNat 32 (4 * c.val + 2) := by
  revert c; decide
theorem word3 (c : Fin 32) : Scalar.addi (Scalar.muli (Cert.KernelIdealProof.devW c) 4#32) 3#32 = BitVec.ofNat 32 (4 * c.val + 3) := by
  revert c; decide

/-- What a device's four experts add up to at a token and a column, from what the kernel reads. -/
theorem partOf_apply (c : Fin 32) (x : Vec Ideal S1024x256 .bf16) (rw' : Vec Ideal S256x128 .bf16) (i0 i1 : Vec Ideal S1024x1 .i32)
    (w0 w1 w2 w3 : Vec Ideal S1x256x512 .bf16) (t : Fin 1024) (f : Fin 512) :
    Cert.KernelIdealProof.partOf (F := Ideal) c x rw' i0 i1 w0 w1 w2 w3 (ix2 t f)
      = (let a := i0 (ix2 t 0)
         let b := i1 (ix2 t 0)
         let g0 := weight x rw' t a a b
         let g1 := weight x rw' t b a b
         term (BitVec.ofNat 32 (4 * c.val)) a b g0 g1 (prod x w0 t f) + term (BitVec.ofNat 32 (4 * c.val + 1)) a b g0 g1 (prod x w1 t f)
           + term (BitVec.ofNat 32 (4 * c.val + 2)) a b g0 g1 (prod x w2 t f) + term (BitVec.ofNat 32 (4 * c.val + 3)) a b g0 g1 (prod x w3 t f)) := by
  pointwise [Cert.KernelIdealProof.partOf, Cert.KernelIdealProof.acc2, k0_pay16, k0_pay13, k0_pay14, k0_pay15, k0_pay12, k0_pay11, k0_pay2,
    k0_pay4, k0_pay5, pay9_apply, pay10_apply]
  simp only [select_eq, word0, word1, word2, word3]
  simp only [term, prod, zero_add]

/-- The sum over the slots of the exchange buffer. -/
theorem pay1_apply (v : Vec Ideal S32x32x512 .bf16) (r : Fin 32) (f : Fin 512) :
    k0_pay1 (F := Ideal) v (ix2 r f) = ∑ s : Fin 32, v (ix3 s r f) := by
  pointwise [k0_pay1]

section Args
variable (m : (ℓ : Loc nD τ sig) → Buf (Elt Ideal) ℓ) (c : Dev nD)

/-- What the kernel reads of each argument is all of it. -/
theorem xstg_eq : Cert.KernelIdealProof.xstg m c = m ((c : Thread nD τ).loc main_arg0) :=
  Memref.read_access_unit_zero (Elt Ideal) main_arg0 (funext fun a => by fin_cases a <;> decide) (fun a => by fin_cases a <;> decide) _
theorem rwstg_eq : Cert.KernelIdealProof.rwstg m c = m ((c : Thread nD τ).loc main_arg1) :=
  Memref.read_access_unit_zero (Elt Ideal) main_arg1 (funext fun a => by fin_cases a <;> decide) (fun a => by fin_cases a <;> decide) _
theorem ixstg_eq : Cert.KernelIdealProof.ixstg m c = m ((c : Thread nD τ).loc main_arg2) :=
  Memref.read_access_unit_zero (Elt Ideal) main_arg2 (funext fun a => by fin_cases a <;> decide) (fun a => by fin_cases a <;> decide) _
theorem ewstg_eq : Cert.KernelIdealProof.ewstg m c = m ((c : Thread nD τ).loc main_arg3) :=
  Memref.read_access_unit_zero (Elt Ideal) main_arg3 (funext fun a => by fin_cases a <;> decide) (fun a => by fin_cases a <;> decide) _
end Args

/-- A column of the indices, and one expert's matrix, are read where they stand. -/
theorem ix0_apply (X : (cc0_stg2_0 : Ref sig .tc).ty.Contents (Elt Ideal)) (t : Fin 1024) :
    Cert.KernelIdealProof.ix0 X (ix2 t 0) = (X : S1024x2.Idx → BitVec 32) (ix2 t 0) := by
  simp only [Cert.KernelIdealProof.ix0, View.readAt_apply]
  pointwise []
  rfl
theorem ix1_apply (X : (cc0_stg2_0 : Ref sig .tc).ty.Contents (Elt Ideal)) (t : Fin 1024) :
    Cert.KernelIdealProof.ix1 X (ix2 t 0) = (X : S1024x2.Idx → BitVec 32) (ix2 t 1) := by
  simp only [Cert.KernelIdealProof.ix1, View.readAt_apply]
  pointwise []
  rfl
theorem ew0_apply (X : (cc0_stg3_0 : Ref sig .tc).ty.Contents (Elt Ideal)) (d : Fin 256) (f : Fin 512) :
    Cert.KernelIdealProof.ew0 X (ix3 0 d f) = (X : S4x256x512.Idx → EReal) (ix3 0 d f) := by
  simp only [Cert.KernelIdealProof.ew0, View.readAt_apply]
  pointwise []
  rfl
theorem ew1_apply (X : (cc0_stg3_0 : Ref sig .tc).ty.Contents (Elt Ideal)) (d : Fin 256) (f : Fin 512) :
    Cert.KernelIdealProof.ew1 X (ix3 0 d f) = (X : S4x256x512.Idx → EReal) (ix3 1 d f) := by
  simp only [Cert.KernelIdealProof.ew1, View.readAt_apply]
  pointwise []
  rfl
theorem ew2_apply (X : (cc0_stg3_0 : Ref sig .tc).ty.Contents (Elt Ideal)) (d : Fin 256) (f : Fin 512) :
    Cert.KernelIdealProof.ew2 X (ix3 0 d f) = (X : S4x256x512.Idx → EReal) (ix3 2 d f) := by
  simp only [Cert.KernelIdealProof.ew2, View.readAt_apply]
  pointwise []
  rfl
theorem ew3_apply (X : (cc0_stg3_0 : Ref sig .tc).ty.Contents (Elt Ideal)) (d : Fin 256) (f : Fin 512) :
    Cert.KernelIdealProof.ew3 X (ix3 0 d f) = (X : S4x256x512.Idx → EReal) (ix3 3 d f) := by
  simp only [Cert.KernelIdealProof.ew3, View.readAt_apply]
  pointwise []
  rfl

/-- The product of a token's row with a column of the expert's matrix, from all of a device's matrices. -/
def prodOf {n : ℕ} (x : S1024x256.Idx → EReal) (W : (⟨3, ![n, 256, 512]⟩ : Shape).Idx → EReal) (t : Fin 1024) (f : Fin 512) (e : Fin n) : EReal :=
  ∑ d : Fin 256, x (ix2 t d) * W (ix3 e d f)

/-- A device's partial result at a token and a column: the sum over its four experts. -/
theorem partV_apply (m : (ℓ : Loc nD τ sig) → Buf (Elt Ideal) ℓ) (c : Dev nD) (t : Fin 1024) (f : Fin 512)
    (x : S1024x256.Idx → EReal) (rw' : S256x128.Idx → EReal) (ix : S1024x2.Idx → BitVec 32) (W : S4x256x512.Idx → EReal)
    (hx : m ((c : Thread nD τ).loc main_arg0) = x) (hr : m ((c : Thread nD τ).loc main_arg1) = rw')
    (hi : m ((c : Thread nD τ).loc main_arg2) = ix) (hW : m ((c : Thread nD τ).loc main_arg3) = W) :
    (Cert.KernelIdealProof.partV m c : S1024x512.Idx → EReal) (ix2 t f)
      = ∑ l : Fin 4, term (BitVec.ofNat 32 (4 * c.val + l.val)) (ix (ix2 t 0)) (ix (ix2 t 1))
          (weight x rw' t (ix (ix2 t 0)) (ix (ix2 t 0)) (ix (ix2 t 1))) (weight x rw' t (ix (ix2 t 1)) (ix (ix2 t 0)) (ix (ix2 t 1)))
          (prodOf x W t f l) := by
  unfold Cert.KernelIdealProof.partV
  refine (partOf_apply c _ _ _ _ _ _ _ _ t f).trans ?_
  rw [xstg_eq, rwstg_eq, ixstg_eq, ewstg_eq, hx, hr, hi, hW]
  dsimp only
  rw [ix0_apply, ix1_apply, Fin.sum_univ_four]
  simp only [prod, ew0_apply, ew1_apply, ew2_apply, ew3_apply]
  rfl

/-- Token `r` of device `c`. -/
def tokenOf (c r : Fin 32) : Fin 1024 := ⟨32 * c.val + r.val, by have := c.isLt; have := r.isLt; omega⟩

/-- A device's result at a row and a column: the sum over the devices of their partial results. -/
theorem outV_apply (m : (ℓ : Loc nD τ sig) → Buf (Elt Ideal) ℓ) (c : Dev nD) (r : Fin 32) (f : Fin 512) (p : Fin 32 → EReal)
    (h : ∀ s : Fin 32, (Cert.KernelIdealProof.partV m s : S1024x512.Idx → EReal) (ix2 (tokenOf c r) f) = p s) :
    (Cert.KernelIdealProof.outV m c : S32x512.Idx → EReal) (ix2 r f) = ∑ s : Fin 32, p s := by
  unfold Cert.KernelIdealProof.outV
  refine (pay1_apply _ r f).trans (Finset.sum_congr rfl fun s _ => (Eq.trans ?_ (h s)))
  unfold Cert.KernelIdealProof.commV Cert.KernelIdealProof.rowIx
  rw [ix2_eq_valueIdx]
  rfl

/-! ## The sum over all experts -/

/-- A sum of equal weights, times a product. -/
theorem double_mul (w y : EReal) : (w + w) * y = w * y + w * y := by
  have h : ∀ z : EReal, (1 + 1) * z = z + z := fun z => by
    rw [EReal.right_distrib_of_nonneg zero_le_one zero_le_one, one_mul]
  rw [← h w, mul_assoc, h]

/-- One expert's term: what each of the two indices adds where it names the expert. Where both do, their weights are equal. -/
theorem term_named (e a b : Fin 128) (g0 g1 y : EReal) (h : a = b → g0 = g1) :
    term (BitVec.ofNat 32 e.val) (BitVec.ofNat 32 a.val) (BitVec.ofNat 32 b.val) g0 g1 y
      = (if e = a then g0 * y else 0) + (if e = b then g1 * y else 0) := by
  have hw : ∀ u v : Fin 128, (BitVec.ofNat 32 u.val = BitVec.ofNat 32 v.val) ↔ v = u := fun u v => by
    constructor
    · intro hh
      have := congrArg BitVec.toNat hh
      simp only [BitVec.toNat_ofNat] at this
      have := u.isLt; have := v.isLt
      apply Fin.ext; omega
    · rintro rfl; rfl
  unfold term
  simp only [hw]
  by_cases h0 : e = a <;> by_cases h1 : e = b
  · have hg := h (h0.symm.trans h1)
    rw [if_pos h0, if_pos h1, if_pos h0, if_pos h1, hg, double_mul]
  · rw [if_pos h0, if_neg h1, if_pos h0, if_neg h1, add_zero, add_zero]
  · rw [if_neg h0, if_pos h1, if_neg h0, if_pos h1, zero_add, zero_add]
  · rw [if_neg h0, if_neg h1, if_neg h0, if_neg h1, add_zero, zero_mul]

/-- Over all experts: the two that are named. -/
theorem sum_term (a b : Fin 128) (g0 g1 : EReal) (y : Fin 128 → EReal) (h : a = b → g0 = g1) :
    (∑ e : Fin 128, term (BitVec.ofNat 32 e.val) (BitVec.ofNat 32 a.val) (BitVec.ofNat 32 b.val) g0 g1 (y e)) = g0 * y a + g1 * y b := by
  rw [Finset.sum_congr rfl fun e _ => term_named e a b g0 g1 (y e) h, Finset.sum_add_distrib, Finset.sum_ite_eq', Finset.sum_ite_eq',
    if_pos (Finset.mem_univ _), if_pos (Finset.mem_univ _)]

/-- Expert `l` of device `s`. -/
def expertOf (s : Fin 32) (l : Fin 4) : Fin 128 := ⟨4 * s.val + l.val, by have := s.isLt; have := l.isLt; omega⟩

/-- All experts, by device. -/
theorem sum_experts (f : Fin 128 → EReal) : (∑ s : Fin 32, ∑ l : Fin 4, f (expertOf s l)) = ∑ e : Fin 128, f e := by
  rw [← Fintype.sum_prod_type' (fun s l => f (expertOf s l))]
  refine Fintype.sum_equiv (finProdFinEquiv (m := 32) (n := 4)) _ _ fun p => congrArg f (Fin.ext ?_)
  show 4 * p.1.val + p.2.val = p.2.val + 4 * p.1.val
  omega

/-- The gate of a named expert is its probability. -/
theorem gate_named (x : S1024x256.Idx → EReal) (rw' : S256x128.Idx → EReal) (t : Fin 1024) (a : Fin 128) :
    gate x rw' t (BitVec.ofNat 32 a.val) = prob x rw' t a := by
  unfold gate
  rw [Finset.sum_eq_single a (fun e _ he => if_neg fun hh => he ?_) (fun h => absurd (Finset.mem_univ _) h), if_pos rfl]
  have := congrArg BitVec.toNat hh
  simp only [BitVec.toNat_ofNat] at this
  have := a.isLt; have := e.isLt
  apply Fin.ext; omega

end Cert.MoeValue

end
-- ==== Proof.ValueReference.lean ====
/-
# 01_k — what the reference computes, at an index
-/
module

public import proofs.«01_k».proof.Proof.ValueKernel
public import proofs.«01_k».proof.Proof.Gen.ReferenceIdeal
public import proofs.«01_k».proof.Proof.Gen.ReferenceIdeal.Run

@[expose] public section

noncomputable section

namespace Cert.MoeValue

open Cert.ReferenceIdeal Cert.ReferenceIdeal.Facts₀
open Idealize.ShloMosaic Idealize.ShloMosaic.TcCoe Idealize.SL.Sem

attribute [local instance] Cert.ReferenceIdeal.Gen.facts

/-! ## The two gathers -/

/-- A start index, held inside the 128 experts. -/
def held (w : BitVec 32) : Fin 128 := ⟨min w.toInt.toNat 127, by omega⟩

/-- One entry of each row's own choice. -/
theorem gatherCols_apply (p : S1024x128.Idx → EReal) (i : IVec S1024x2x1 32) (t : Fin 1024) (j : Fin 2) :
    Host.gather gather_S1024x128_S1024x2x1_S1024x2_n_1_0_0_1_2_11 p i (ix2 t j) = p (ix2 t (held (i (ix3 t j 0)))) := by
  have hsi : gather_S1024x128_S1024x2x1_S1024x2_n_1_0_0_1_2_11.siIdx (ix2 t j) ⟨0, Nat.one_pos⟩ = ix3 t j 0 := by
    funext b; refine Fin.ext ?_
    match b with
    | ⟨0, _⟩ => rfl
    | ⟨1, _⟩ => rfl
    | ⟨2, _⟩ => rfl
  have h0 : gather_S1024x128_S1024x2x1_S1024x2_n_1_0_0_1_2_11.start (ix2 t j) i 0 = 0 :=
    GatherDims.start_batching _ _ _ _ (List.mem_singleton.mpr rfl)
  have h1 : gather_S1024x128_S1024x2x1_S1024x2_n_1_0_0_1_2_11.start (ix2 t j) i 1 = (held (i (ix3 t j 0))).val := by
    unfold GatherDims.start
    rw [dif_pos (show (1 : Fin 2) ∈ gather_S1024x128_S1024x2x1_S1024x2_n_1_0_0_1_2_11.startIndexMap from List.mem_singleton.mpr rfl), ← hsi]
    rfl
  unfold Host.gather
  refine congrArg p (funext fun a => Fin.ext ?_)
  rcases (show a = 0 ∨ a = 1 from by
    match a with
    | ⟨0, _⟩ => exact Or.inl rfl
    | ⟨1, _⟩ => exact Or.inr rfl) with rfl | rfl
  · show gather_S1024x128_S1024x2x1_S1024x2_n_1_0_0_1_2_11.start (ix2 t j) i 0 + _ + _ = t.val
    rw [h0, GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S1024x128_S1024x2x1_S1024x2_n_1_0_0_1_2_11.operandBatchingDims from List.mem_singleton.mpr rfl)]
    rfl
  · show gather_S1024x128_S1024x2x1_S1024x2_n_1_0_0_1_2_11.start (ix2 t j) i 1 + _ + _ = (held (i (ix3 t j 0))).val
    rw [h1, GatherDims.batchCoord_eq_zero _ _ _ (fun h => absurd (List.mem_singleton.mp h) (by decide)),
      GatherDims.offCoord_eq_zero _ _ _ (fun h => ((GatherDims.mem_sKept _ _).mp h).1 (List.mem_singleton.mpr rfl))]
    rfl

/-- Whole matrices, one for each token. -/
theorem gatherMats_apply (w : S128x256x512.Idx → EReal) (i : IVec S1024x1 32) (t : Fin 1024) (d : Fin 256) (f : Fin 512) :
    Host.gather gather_S128x256x512_S1024x1_S1024x256x512_12_0_n_n_0_1_1256512 w i (ix3 t d f) = w (ix3 (held (i (ix2 t 0))) d f) := by
  have hsi : gather_S128x256x512_S1024x1_S1024x256x512_12_0_n_n_0_1_1256512.siIdx (ix3 t d f) ⟨0, Nat.one_pos⟩ = ix2 t 0 := by
    funext b; refine Fin.ext ?_
    match b with
    | ⟨0, _⟩ => rfl
    | ⟨1, _⟩ => rfl
  have h0 : gather_S128x256x512_S1024x1_S1024x256x512_12_0_n_n_0_1_1256512.start (ix3 t d f) i 0 = (held (i (ix2 t 0))).val := by
    unfold GatherDims.start
    rw [dif_pos (show (0 : Fin 3) ∈ gather_S128x256x512_S1024x1_S1024x256x512_12_0_n_n_0_1_1256512.startIndexMap from List.mem_singleton.mpr rfl), ← hsi]
    rfl
  have hn : ∀ a : Fin 3, a ≠ 0 → gather_S128x256x512_S1024x1_S1024x256x512_12_0_n_n_0_1_1256512.start (ix3 t d f) i a = 0 := fun a ha => by
    unfold GatherDims.start
    exact dif_neg fun h => ha (List.mem_singleton.mp h)
  unfold Host.gather
  refine congrArg w (funext fun a => Fin.ext ?_)
  show gather_S128x256x512_S1024x1_S1024x256x512_12_0_n_n_0_1_1256512.start (ix3 t d f) i a + _ + _ = _
  rw [GatherDims.batchCoord_eq_zero _ _ _ List.not_mem_nil, Nat.add_zero]
  rcases (show a = 0 ∨ a = 1 ∨ a = 2 from by
    match a with
    | ⟨0, _⟩ => exact Or.inl rfl
    | ⟨1, _⟩ => exact Or.inr (Or.inl rfl)
    | ⟨2, _⟩ => exact Or.inr (Or.inr rfl)) with rfl | rfl | rfl
  · rw [GatherDims.offCoord_eq_zero _ _ _ (fun h => ((GatherDims.mem_sKept _ _).mp h).1 (List.mem_singleton.mpr rfl)), Nat.add_zero]
    exact h0
  · rw [hn _ (by decide), Nat.zero_add]
    rfl
  · rw [hn _ (by decide), Nat.zero_add]
    rfl

/-! ## The reference's parts -/

/-- The reference's probabilities. -/
def probsR (x : FVec Ideal S1024x256 .bf16) (rw' : FVec Ideal S256x128 .bf16) : FVec Ideal S1024x128 .f32 :=
  have s : FVec Ideal S1024x128 .f32 := Host.dotGeneral dot_S1024x256_S256x128_S1024x128_1_0_0_1_n_n none (extf .f32 x bitsLt_bf16_f32) (extf .f32 rw' bitsLt_bf16_f32)
  have e : FVec Ideal S1024x128 .f32 := Host.exp (subf s (broadcastInDim S1024x128 ![0, 1] bcast_S1024x1_S1024x128_0_1 (broadcastInDim S1024x1 ![0] bcast_S1024_S1024x1_0 (Host.reduce FloatOps.maximumf s (constant S_ .f32 0xFF800000#32) reducesTo_S1024x128_S1024_d1 h_S_))))
  Host.divf e (broadcastInDim S1024x128 ![0, 1] bcast_S1024x1_S1024x128_0_1 (broadcastInDim S1024x1 ![0] bcast_S1024_S1024x1_0 (Host.reduceAdd e (constant S_ .f32 0x00000000#32) reducesTo_S1024x128_S1024_d1 h_S_)))

/-- The reference's probabilities are the kernel's. -/
theorem probsR_apply (x : FVec Ideal S1024x256 .bf16) (rw' : FVec Ideal S256x128 .bf16) (t : Fin 1024) (e : Fin 128) :
    probsR x rw' (ix2 t e) = prob x rw' t e := by
  pointwise [probsR]
  rfl

/-- The probabilities of a token's two experts. -/
def gatesR (x : FVec Ideal S1024x256 .bf16) (rw' : FVec Ideal S256x128 .bf16) (ix : IVec S1024x2 32) : FVec Ideal S1024x2 .f32 :=
  Host.gather gather_S1024x128_S1024x2x1_S1024x2_n_1_0_0_1_2_11 (probsR x rw')
    (shapeCast _ (select (cmpi .slt ix (broadcastInDim S1024x2 ![] bcast_S_S1024x2 (constantI S_ 32 0#32))) (addi ix (broadcastInDim S1024x2 ![] bcast_S_S1024x2 (constantI S_ 32 128#32))) ix) shapeCasts_S1024x2_S1024x2x1)

/-- A named expert is inside already. -/
theorem held_named (a : Fin 128) : held (BitVec.ofNat 32 a.val) = a := by
  revert a; decide

/-- A named expert is not counted from the end. -/
theorem wrap_named (a : Fin 128) :
    Scalar.select (IntOp.cmpi CmpIPredicate.slt (BitVec.ofNat 32 a.val) 0#32) (IntOp.addi (BitVec.ofNat 32 a.val) 128#32) (BitVec.ofNat 32 a.val)
      = BitVec.ofNat 32 a.val := by
  revert a; decide

/-- At an index that names an expert: that expert's probability. -/
theorem gatesR_apply (x : FVec Ideal S1024x256 .bf16) (rw' : FVec Ideal S256x128 .bf16) (ix : IVec S1024x2 32) (t : Fin 1024) (j : Fin 2)
    (a : Fin 128) (h : ix (ix2 t j) = BitVec.ofNat 32 a.val) :
    gatesR x rw' ix (ix2 t j) = prob x rw' t a := by
  unfold gatesR
  rw [gatherCols_apply, probsR_apply]
  pointwise []
  rw [h, wrap_named, held_named]

/-- Each token's row times the matrix of the expert that its index names. -/
def rowsR (x : FVec Ideal S1024x256 .bf16) (col : IVec S1024x1 32) (W : FVec Ideal S128x256x512 .bf16) : FVec Ideal S1024x512 .f32 :=
  Host.dotGeneral dot_S1024x256_S1024x256x512_S1024x512_1_1_n_2_0_0 none (extf .f32 x bitsLt_bf16_f32)
    (Host.gather gather_S128x256x512_S1024x1_S1024x256x512_12_0_n_n_0_1_1256512 (extf .f32 W bitsLt_bf16_f32)
      (broadcastInDim S1024x1 ![0] bcast_S1024_S1024x1_0 (shapeCast _ col shapeCasts_S1024x1_S1024)))

/-- At an index that names an expert: the product with that expert's matrix. -/
theorem rowsR_apply (x : FVec Ideal S1024x256 .bf16) (col : IVec S1024x1 32) (W : FVec Ideal S128x256x512 .bf16) (t : Fin 1024) (f : Fin 512)
    (a : Fin 128) (h : col (ix2 t 0) = BitVec.ofNat 32 a.val) :
    rowsR x col W (ix2 t f) = prodOf x W t f a := by
  pointwise [rowsR, gatherMats_apply]
  rw [h, held_named]
  rfl

/-- The reference's result. -/
def outR (x : FVec Ideal S1024x256 .bf16) (rw' : FVec Ideal S256x128 .bf16) (ix : IVec S1024x2 32) (W : FVec Ideal S128x256x512 .bf16) : FVec Ideal S1024x512 .f32 :=
  have g0 : FVec Ideal S1024x1 .f32 := extractStridedSlice S1024x1 ![0, 0] (gatesR x rw' ix) slices_S1024x2_S1024x1_0_0
  have g1 : FVec Ideal S1024x1 .f32 := extractStridedSlice S1024x1 ![0, 1] (gatesR x rw' ix) slices_S1024x2_S1024x1_0_1
  addf (mulf (broadcastInDim S1024x512 ![0, 1] bcast_S1024x1_S1024x512_0_1 (Host.divf g0 (addf g0 g1)))
      (rowsR x (extractStridedSlice S1024x1 ![0, 0] ix slices_S1024x2_S1024x1_0_0) W))
    (mulf (broadcastInDim S1024x512 ![0, 1] bcast_S1024x1_S1024x512_0_1 (Host.divf g1 (addf g0 g1)))
      (rowsR x (extractStridedSlice S1024x1 ![0, 1] ix slices_S1024x2_S1024x1_0_1) W))

/-- The reference's result at a token and a column: the two named experts' products, weighted. -/
theorem outR_apply (x : FVec Ideal S1024x256 .bf16) (rw' : FVec Ideal S256x128 .bf16) (ix : IVec S1024x2 32) (W : FVec Ideal S128x256x512 .bf16)
    (t : Fin 1024) (f : Fin 512) (a b : Fin 128) (ha : ix (ix2 t 0) = BitVec.ofNat 32 a.val) (hb : ix (ix2 t 1) = BitVec.ofNat 32 b.val) :
    outR x rw' ix W (ix2 t f)
      = Ideal.div (prob x rw' t a) (prob x rw' t a + prob x rw' t b) * prodOf x W t f a
        + Ideal.div (prob x rw' t b) (prob x rw' t a + prob x rw' t b) * prodOf x W t f b := by
  have hc0 : extractStridedSlice S1024x1 ![0, 0] ix slices_S1024x2_S1024x1_0_0 (ix2 t 0) = BitVec.ofNat 32 a.val := by
    rw [← ha]; pointwise []
  have hc1 : extractStridedSlice S1024x1 ![0, 1] ix slices_S1024x2_S1024x1_0_1 (ix2 t 0) = BitVec.ofNat 32 b.val := by
    rw [← hb]; pointwise []
  pointwise [outR]
  rw [gatesR_apply x rw' ix t 0 a ha, gatesR_apply x rw' ix t 1 b hb, rowsR_apply x _ W t f a hc0, rowsR_apply x _ W t f b hc1]

/-- The reference's run leaves that result. -/
theorem res_eq (m : (ℓ : Loc nD τ sig) → Buf (Elt Ideal) ℓ) (c : Dev nD) :
    Cert.ReferenceIdeal.Value.res_main_v31 m c
      = outR (m ((c : Thread nD τ).loc main_arg0)) (m ((c : Thread nD τ).loc main_arg1)) (m ((c : Thread nD τ).loc main_arg2)) (m ((c : Thread nD τ).loc main_arg3)) := by
  rfl

end Cert.MoeValue

end
-- ==== Proof.ValueClaim.lean ====
/-
# 01_k — the kernel's result is the reference's
-/
module

public import proofs.«01_k».proof.Defs
public import proofs.«01_k».proof.Proof.ValueReference
public import proofs.«01_k».proof.Proof.KernelIdealRun
public import Idealize.ShloMosaic.Lib.Layout

@[expose] public section

noncomputable section

namespace Cert.MoeValue

open Cert.KernelIdeal Cert.KernelIdeal.Gen
open Idealize.ShloMosaic Idealize.ShloMosaic.TcCoe Idealize.SL.Sem

/-! ## The precondition -/

/-- The side conditions of the precondition, as stated of the kernel and of the reference. -/
theorem factsPreK : Cert.Pre_experts_named_KernelIdeal.Facts := ⟨by decide⟩
theorem factsPreR : Cert.Pre_experts_named_ReferenceIdeal.Facts := ⟨by decide⟩

/-- A word between 0 and 127 names an expert. -/
theorem named_of_word (w : BitVec 32) (h : IntOp.andi (IntOp.cmpi .sge w 0#32) (IntOp.cmpi .slt w 128#32) = 1#1) :
    ∃ a : Fin 128, w = BitVec.ofNat 32 a.val := by
  have h1 : BitVec.sle 0#32 w = true ∧ BitVec.slt w 128#32 = true := by
    revert h
    simp only [IntOp.andi, IntOp.cmpi]
    cases BitVec.sle 0#32 w <;> cases BitVec.slt w 128#32 <;> decide
  obtain ⟨h1, h2⟩ := h1
  simp only [BitVec.sle, BitVec.slt, decide_eq_true_eq, BitVec.toInt_eq_toNat_cond, BitVec.toNat_ofNat] at h1 h2
  have hlt := w.isLt
  have : w.toNat < 128 := by
    split at h1 <;> split at h2 <;> simp at * <;> omega
  exact ⟨⟨w.toNat, this⟩, by simp⟩

/-- The precondition, at one entry of a device's indices. -/
theorem named (m : (ℓ : Loc nD τ sig) → Buf (Elt Ideal) ℓ)
    (h : Cert.Pre_KernelIdeal_experts_named_KernelIdeal (hPre_experts_named_KernelIdeal := factsPreK) m) (c : Dev nD)
    (ix : S1024x2.Idx → BitVec 32) (hi : m ((c : Thread nD τ).loc main_arg2) = ix) (t : Fin 1024) (j : Fin 2) :
    ∃ a : Fin 128, ix (ix2 t j) = BitVec.ofNat 32 a.val := by
  have e := congrFun (h c) (ix2 t j)
  letI := factsPreK
  have hr : ∀ (x : FVec Ideal S1024x256 .bf16) (r : FVec Ideal S256x128 .bf16) (i : IVec S1024x2 32) (W : FVec Ideal S4x256x512 .bf16),
      Cert.Pre_experts_named_KernelIdeal.fn (F := Ideal) x r i W (ix2 t j)
        = IntOp.andi (IntOp.cmpi .sge (i (ix2 t j)) 0#32) (IntOp.cmpi .slt (i (ix2 t j)) 128#32) := fun x r i W => by
    pointwise [Cert.Pre_experts_named_KernelIdeal.fn]
  refine named_of_word _ ?_
  rw [← hi]
  exact (hr _ _ _ _).symm.trans e

/-! ## The output array -/

section Out
variable (m : (ℓ : Loc nD τ sig) → Buf (Elt Ideal) ℓ) (ρ : Dev nD → PrngReg) (c : Dev nD)

/-- The output array, read back whole, is what the body left in its staging buffer. -/
theorem finalA_blk : (win0_4.blk t0_0).view.read (Elt Ideal) (Cert.KernelIdealProof.finalA m c ρ (4 : Fin 5)) = Cert.KernelIdealProof.outV m c := by
  unfold Cert.KernelIdealProof.finalA
  rw [show cfg0.N = ((0 : Fin 1) : Fin cfg0.N).val + 1 from rfl, (Cert.KernelIdealProof.dats m ρ 0 c).arrAt_succ (4 : Fin 5) (0 : Fin 1)]
  rw [show (cfg0.win (4 : Fin 5)).flush (0 : Fin 1) = true from by decide, if_pos rfl]
  exact View.read_write_univ _ _

/-- The output array of a device ends as the sum over its slots. -/
theorem finalA_out : Cert.KernelIdealProof.finalA m c ρ (4 : Fin 5) = Cert.KernelIdealProof.outV m c :=
  (Memref.read_access_unit_zero (Elt Ideal) main_v1 (funext fun a => by fin_cases a <;> decide) (fun a => by fin_cases a <;> decide) _).symm.trans
    (finalA_blk m ρ c)

end Out

/-! ## Kernel and reference -/

/-- Every device's result is its block of the reference's result. -/
theorem out_eq (m : (ℓ : Loc nD τ sig) → Buf (Elt Ideal) ℓ)
    (h : Cert.Pre_KernelIdeal_experts_named_KernelIdeal (hPre_experts_named_KernelIdeal := factsPreK) m)
    (x : FVec Ideal S1024x256 .bf16) (rw' : FVec Ideal S256x128 .bf16) (ix : IVec S1024x2 32) (W : FVec Ideal ⟨3, ![128, 256, 512]⟩ .bf16)
    (hx : ∀ c : Dev nD, m ((c : Thread nD τ).loc main_arg0) = x) (hr : ∀ c : Dev nD, m ((c : Thread nD τ).loc main_arg1) = rw')
    (hi : ∀ c : Dev nD, m ((c : Thread nD τ).loc main_arg2) = ix)
    (hW : ∀ c : Dev nD, m ((c : Thread nD τ).loc main_arg3) = Layout.block ⟨3, ![4, 256, 512]⟩ ⟨3, ![128, 256, 512]⟩ 0 32 c W) (c : Dev nD) :
    Cert.KernelIdealProof.outV m c = Layout.block ⟨2, ![32, 512]⟩ ⟨2, ![1024, 512]⟩ 0 32 c (outR x rw' ix W) := by
  suffices hs : ∀ (r : Fin 32) (f : Fin 512), (Cert.KernelIdealProof.outV m c : S32x512.Idx → EReal) (ix2 r f) = outR x rw' ix W (ix2 (tokenOf c r) f) by
    funext i
    have hi : i = ix2 (n0 := 32) (n1 := 512) (i 0) (i 1) := by
      funext a
      match a with
      | ⟨0, _⟩ => rfl
      | ⟨1, _⟩ => rfl
    rw [hi]
    refine (hs (i 0) (i 1)).trans (congrArg (outR x rw' ix W) (funext fun a => Fin.ext ?_))
    rw [Layout.Tiles.idx_val]
    match a with
    | ⟨0, _⟩ =>
      show 32 * c.val + (i 0).val = c.val * 32 + (i 0).val
      omega
    | ⟨1, _⟩ => rfl
  intro r f
  obtain ⟨a, ha⟩ := named m h c ix (hi c) (tokenOf c r) 0
  obtain ⟨b, hb⟩ := named m h c ix (hi c) (tokenOf c r) 1
  rw [outR_apply x rw' ix W (tokenOf c r) f a b ha hb]
  rw [outV_apply m c r f _ fun s => partV_apply m s (tokenOf c r) f x rw' ix _ (hx s) (hr s) (hi s) (hW s)]
  rw [ha, hb]
  simp only [weight, gate_named]
  have hp : ∀ (s : Fin 32) (l : Fin 4), prodOf x (Layout.block ⟨3, ![4, 256, 512]⟩ ⟨3, ![128, 256, 512]⟩ 0 32 s W) (tokenOf c r) f l
      = prodOf x W (tokenOf c r) f (expertOf s l) := fun s l => by
    unfold prodOf
    refine Finset.sum_congr rfl fun d _ => congrArg (x _ * ·) (congrArg W (funext fun a => Fin.ext ?_))
    rw [Layout.Tiles.idx_val]
    match a with
    | ⟨0, _⟩ =>
      show s.val * 4 + l.val = 4 * s.val + l.val
      omega
    | ⟨1, _⟩ => rfl
    | ⟨2, _⟩ => rfl
  simp only [hp]
  refine (sum_experts fun e => term (BitVec.ofNat 32 e.val) (BitVec.ofNat 32 a.val) (BitVec.ofNat 32 b.val) _ _ (prodOf x W (tokenOf c r) f e)).trans ?_
  exact sum_term a b _ _ _ fun hab => by rw [hab]

/-- The kernel on 32 devices and the reference on one leave the same result, where every index names an expert. -/
theorem algebraic : Cert.algebraic_KernelIdeal_ReferenceIdeal_pre_experts_named_KernelIdeal (hKernelIdeal := Cert.KernelIdeal.Gen.facts)
    (hReferenceIdeal := Cert.ReferenceIdeal.Gen.facts) (hPre_experts_named_KernelIdeal := factsPreK) := by
  intro m g m' g' hpre hargs
  refine ⟨Cert.ReferenceIdeal.Value.res_main_v31 m' 0, ?_, ?_⟩
  · refine (θ_run (Cert.KernelIdeal.defs (F := Ideal)) _ _).mono (fun r h c => ⟨?_, ?_, ?_, ?_, ?_⟩) (Cert.KernelIdealProof.run_main m g)
    · rw [res_eq]
      exact ((h.1 c 4).trans (finalA_out m g c)).trans (out_eq m hpre _ _ _ _ (fun c => (hargs c).1) (fun c => (hargs c).2.1)
        (fun c => (hargs c).2.2.1) (fun c => (hargs c).2.2.2) c)
    · exact (h.1 c 0).trans (Cert.KernelIdealProof.finalA_in m c g 0 (by decide))
    · exact (h.1 c 1).trans (Cert.KernelIdealProof.finalA_in m c g 1 (by decide))
    · exact (h.1 c 2).trans (Cert.KernelIdealProof.finalA_in m c g 2 (by decide))
    · exact (h.1 c 3).trans (Cert.KernelIdealProof.finalA_in m c g 3 (by decide))
  · exact (θ_run (Cert.ReferenceIdeal.defs (F := Ideal)) _ _).mono (fun r h => h 0) (Cert.ReferenceIdeal.Value.run m' g')

end Cert.MoeValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ValueClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: its run leaves the four arguments and every counter as claimed. -/
theorem frame_kernel : quiescent_Kernel (hKernel := Cert.Kernel.Gen.facts) := fun m ρ _ =>
  (θ_run (Cert.Kernel.defs (F := Bits)) _ _).mono
    (fun _ h => ⟨fun c =>
      ⟨(h.1 c 0).trans (Cert.KernelProof.finalA_in m c ρ 0 (by decide)), (h.1 c 1).trans (Cert.KernelProof.finalA_in m c ρ 1 (by decide)),
        (h.1 c 2).trans (Cert.KernelProof.finalA_in m c ρ 2 (by decide)), (h.1 c 3).trans (Cert.KernelProof.finalA_in m c ρ 3 (by decide))⟩, h.2⟩)
    (Cert.KernelProof.run_main m ρ)

/-- The same over the extended reals. -/
theorem frame_kernelIdeal : quiescent_KernelIdeal (hKernelIdeal := Cert.KernelIdeal.Gen.facts) := fun m ρ _ =>
  (θ_run (Cert.KernelIdeal.defs (F := Ideal)) _ _).mono
    (fun _ h => ⟨fun c =>
      ⟨(h.1 c 0).trans (Cert.KernelIdealProof.finalA_in m c ρ 0 (by decide)), (h.1 c 1).trans (Cert.KernelIdealProof.finalA_in m c ρ 1 (by decide)),
        (h.1 c 2).trans (Cert.KernelIdealProof.finalA_in m c ρ 2 (by decide)), (h.1 c 3).trans (Cert.KernelIdealProof.finalA_in m c ρ 3 (by decide))⟩, h.2⟩)
    (Cert.KernelIdealProof.run_main m ρ)

/-- The reference's frame. -/
theorem frame_referenceIdeal : quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems rfl r.2⟩)
    (Cert.ReferenceIdeal.Value.run m ρ)

/-- All claims. -/
theorem claim : Cert.Claim :=
  ⟨Cert.Kernel.Gen.facts, Cert.KernelIdeal.Gen.facts, Cert.ReferenceIdeal.Gen.facts, Cert.MoeValue.factsPreK, Cert.MoeValue.factsPreR,
    frame_kernel, frame_kernelIdeal, fun m ρ _ => frame_kernelIdeal m ρ trivial,
    frame_referenceIdeal, fun m ρ _ => frame_referenceIdeal m ρ trivial,
    trivial, Cert.MoeValue.algebraic⟩

end Cert.Proof

end
